-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_magnitudes [hPre_finite_magnitudes : Cert.Pre_finite_magnitudes.Facts] (m : (ℓ : Loc Cert.KernelIdeal.nD Cert.KernelIdeal.τ Cert.KernelIdeal.sig) → Buf (Elt Ideal) ℓ) : Prop :=
  ∀ c : Dev Cert.KernelIdeal.nD,
    (Cert.Pre_finite_magnitudes.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_magnitudes [hPre_finite_magnitudes : Cert.Pre_finite_magnitudes.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_magnitudes.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_magnitudes [hKernelIdeal : Cert.KernelIdeal.Facts] [hPre_finite_magnitudes : Cert.Pre_finite_magnitudes.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_magnitudes m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_magnitudes [hReferenceIdeal : Cert.ReferenceIdeal.Facts] [hPre_finite_magnitudes : Cert.Pre_finite_magnitudes.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_magnitudes m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_finite_magnitudes [hKernelIdeal : Cert.KernelIdeal.Facts] [hReferenceIdeal : Cert.ReferenceIdeal.Facts] [hPre_finite_magnitudes : Cert.Pre_finite_magnitudes.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_magnitudes m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v108)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v108) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v284) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_magnitudes : Cert.Pre_finite_magnitudes.Facts),
    quiescent_Kernel (hKernel := hKernel)
    ∧ quiescent_KernelIdeal (hKernelIdeal := hKernelIdeal)
    ∧ quiescent_KernelIdeal_pre_finite_magnitudes (hKernelIdeal := hKernelIdeal) (hPre_finite_magnitudes := hPre_finite_magnitudes)
    ∧ quiescent_ReferenceIdeal (hReferenceIdeal := hReferenceIdeal)
    ∧ quiescent_ReferenceIdeal_pre_finite_magnitudes (hReferenceIdeal := hReferenceIdeal) (hPre_finite_magnitudes := hPre_finite_magnitudes)
    ∧ preserves_Kernel_KernelIdeal
    ∧ algebraic_KernelIdeal_ReferenceIdeal_pre_finite_magnitudes (hKernelIdeal := hKernelIdeal) (hReferenceIdeal := hReferenceIdeal) (hPre_finite_magnitudes := hPre_finite_magnitudes)
-- ==== Pre_finite_magnitudes.lean ====
abbrev S128x3x224x224 : Shape := ⟨4, ![128, 3, 224, 224]⟩
abbrev S4x16 : Shape := ⟨2, ![4, 16]⟩
abbrev S8x16 : Shape := ⟨2, ![8, 16]⟩
abbrev S_ : Shape := ⟨0, ![]⟩

class Facts : Prop where
  bcast_S_S8x16 : S_.BroadcastsInDim S8x16 (![] : Fin 0 → Fin S8x16.rank)

variable [Facts]

def fn {F : FTy → Type} [FloatOps F] (main_arg0 : FVec F S128x3x224x224 .f32) (main_arg1 : FVec F S4x16 .f32) (main_arg2 : FVec F S8x16 .f32) : IVec S8x16 1 :=
  let main_v0 : FVec F S8x16 .f32 := Host.absf main_arg2
  let main_cst : FVec F S_ .f32 := constant S_ .f32 0x7F800000#32
  let main_v1 : FVec F S8x16 .f32 := broadcastInDim S8x16 ![] bcast_S_S8x16 main_cst
  let main_v2 : IVec S8x16 1 := cmpf .olt main_v0 main_v1
  main_v2
-- ==== Kernel.lean ====
abbrev S128x3x224x224 : Shape := ⟨4, ![128, 3, 224, 224]⟩
abbrev S4x16 : Shape := ⟨2, ![4, 16]⟩
abbrev S8x16 : Shape := ⟨2, ![8, 16]⟩
abbrev S_ : Shape := ⟨0, ![]⟩
abbrev S1 : Shape := ⟨1, ![1]⟩
abbrev S2 : Shape := ⟨1, ![2]⟩
abbrev S1x1 : Shape := ⟨2, ![1, 1]⟩
abbrev S4 : Shape := ⟨1, ![4]⟩
abbrev S16 : Shape := ⟨1, ![16]⟩
abbrev S1x16 : Shape := ⟨2, ![1, 16]⟩
abbrev S4x1 : Shape := ⟨2, ![4, 1]⟩
abbrev S16x3x224x224 : Shape := ⟨4, ![16, 3, 224, 224]⟩

abbrev nBuf : Space → Nat
  | .hbm => 444
  | .vmem => 8
  | .smem => 5
  | _ => 0

abbrev hbmTy0_0 (i : Nat) : BufTy := match i % 128 with
  | 0 => ⟨S128x3x224x224, .f32⟩
  | 1 => ⟨S4x16, .f32⟩
  | 2 => ⟨S8x16, .f32⟩
  | 3 => ⟨S_, .f32⟩
  | 4 => ⟨S4x16, .f32⟩
  | 5 => ⟨S4x16, .f32⟩
  | 6 => ⟨S4x16, .f32⟩
  | 7 => ⟨S_, .i32⟩
  | 8 => ⟨S_, .i32⟩
  | 9 => ⟨S_, .i32⟩
  | 10 => ⟨S_, .i32⟩
  | 11 => ⟨S1, .i32⟩
  | 12 => ⟨S_, .i32⟩
  | 13 => ⟨S_, .i32⟩
  | 14 => ⟨S_, .i32⟩
  | 15 => ⟨S1, .i32⟩
  | 16 => ⟨S2, .i32⟩
  | 17 => ⟨S_, .f32⟩
  | 18 => ⟨S_, .f32⟩
  | 19 => ⟨S_, .f32⟩
  | 20 => ⟨S1x1, .f32⟩
  | 21 => ⟨S1x1, .f32⟩
  | 22 => ⟨S1, .i32⟩
  | 23 => ⟨S_, .i32⟩
  | 24 => ⟨S1, .i32⟩
  | 25 => ⟨S_, .i32⟩
  | 26 => ⟨S4x16, .i64⟩
  | 27 => ⟨S4x16, .i64⟩
  | 28 => ⟨S_, .i64⟩
  | 29 => ⟨S4x16, .i64⟩
  | 30 => ⟨S4x16, .i64⟩
  | 31 => ⟨S_, .i64⟩
  | 32 => ⟨S4x16, .i64⟩
  | 33 => ⟨S4x16, .i64⟩
  | 34 => ⟨S4x16, .i64⟩
  | 35 => ⟨S_, .i64⟩
  | 36 => ⟨S4x16, .i64⟩
  | 37 => ⟨S4x16, .i64⟩
  | 38 => ⟨S4x16, .i32⟩
  | 39 => ⟨S4x16, .i32⟩
  | 40 => ⟨S_, .i32⟩
  | 41 => ⟨S_, .i32⟩
  | 42 => ⟨S_, .i32⟩
  | 43 => ⟨S4x16, .i32⟩
  | 44 => ⟨S4x16, .i32⟩
  | 45 => ⟨S4x16, .i32⟩
  | 46 => ⟨S4x16, .i32⟩
  | 47 => ⟨S4x16, .i32⟩
  | 48 => ⟨S_, .i32⟩
  | 49 => ⟨S4x16, .i32⟩
  | 50 => ⟨S4x16, .i32⟩
  | 51 => ⟨S_, .i32⟩
  | 52 => ⟨S4x16, .i32⟩
  | 53 => ⟨S4x16, .i32⟩
  | 54 => ⟨S4x16, .i32⟩
  | 55 => ⟨S4x16, .i32⟩
  | 56 => ⟨S4x16, .i32⟩
  | 57 => ⟨S_, .i32⟩
  | 58 => ⟨S4x16, .i32⟩
  | 59 => ⟨S4x16, .i32⟩
  | 60 => ⟨S_, .i32⟩
  | 61 => ⟨S4x16, .i32⟩
  | 62 => ⟨S4x16, .i32⟩
  | 63 => ⟨S4x16, .i32⟩
  | 64 => ⟨S4x16, .i32⟩
  | 65 => ⟨S4x16, .i32⟩
  | 66 => ⟨S_, .i32⟩
  | 67 => ⟨S4x16, .i32⟩
  | 68 => ⟨S4x16, .i32⟩
  | 69 => ⟨S_, .i32⟩
  | 70 => ⟨S4x16, .i32⟩
  | 71 => ⟨S4x16, .i32⟩
  | 72 => ⟨S4x16, .i32⟩
  | 73 => ⟨S4x16, .i32⟩
  | 74 => ⟨S4x16, .i32⟩
  | 75 => ⟨S_, .i32⟩
  | 76 => ⟨S4x16, .i32⟩
  | 77 => ⟨S4x16, .i32⟩
  | 78 => ⟨S_, .i32⟩
  | 79 => ⟨S4x16, .i32⟩
  | 80 => ⟨S4x16, .i32⟩
  | 81 => ⟨S4x16, .i32⟩
  | 82 => ⟨S4x16, .i32⟩
  | 83 => ⟨S4x16, .i32⟩
  | 84 => ⟨S4x16, .i32⟩
  | 85 => ⟨S4x16, .i32⟩
  | 86 => ⟨S4x16, .i32⟩
  | 87 => ⟨S_, .i32⟩
  | 88 => ⟨S4x16, .i32⟩
  | 89 => ⟨S4x16, .i32⟩
  | 90 => ⟨S4x16, .i32⟩
  | 91 => ⟨S_, .i32⟩
  | 92 => ⟨S4x16, .i32⟩
  | 93 => ⟨S4x16, .i32⟩
  | 94 => ⟨S_, .i32⟩
  | 95 => ⟨S4x16, .i32⟩
  | 96 => ⟨S4x16, .i32⟩
  | 97 => ⟨S4x16, .i32⟩
  | 98 => ⟨S4x16, .i32⟩
  | 99 => ⟨S4x16, .i32⟩
  | 100 => ⟨S_, .i32⟩
  | 101 => ⟨S4x16, .i32⟩
  | 102 => ⟨S4x16, .i32⟩
  | 103 => ⟨S_, .i32⟩
  | 104 => ⟨S4x16, .i32⟩
  | 105 => ⟨S4x16, .i32⟩
  | 106 => ⟨S4x16, .i32⟩
  | 107 => ⟨S4x16, .i32⟩
  | 108 => ⟨S4x16, .i32⟩
  | 109 => ⟨S_, .i32⟩
  | 110 => ⟨S4x16, .i32⟩
  | 111 => ⟨S4x16, .i32⟩
  | 112 => ⟨S_, .i32⟩
  | 113 => ⟨S4x16, .i32⟩
  | 114 => ⟨S4x16, .i32⟩
  | 115 => ⟨S4x16, .i32⟩
  | 116 => ⟨S4x16, .i32⟩
  | 117 => ⟨S4x16, .i32⟩
  | 118 => ⟨S_, .i32⟩
  | 119 => ⟨S4x16, .i32⟩
  | 120 => ⟨S4x16, .i32⟩
  | 121 => ⟨S_, .i32⟩
  | 122 => ⟨S4x16, .i32⟩
  | 123 => ⟨S4x16, .i32⟩
  | 124 => ⟨S4x16, .i32⟩
  | 125 => ⟨S4x16, .i32⟩
  | 126 => ⟨S4x16, .i32⟩
  | 127 => ⟨S4x16, .i32⟩
  | _ => ⟨S128x3x224x224, .f32⟩

abbrev hbmTy0_1 (i : Nat) : BufTy := match i % 128 with
  | 0 => ⟨S4x16, .i32⟩
  | 1 => ⟨S4x16, .i32⟩
  | 2 => ⟨S_, .i32⟩
  | 3 => ⟨S4x16, .i32⟩
  | 4 => ⟨S4x16, .i32⟩
  | 5 => ⟨S4x16, .i32⟩
  | 6 => ⟨S_, .i32⟩
  | 7 => ⟨S4x16, .i32⟩
  | 8 => ⟨S4x16, .i32⟩
  | 9 => ⟨S_, .i32⟩
  | 10 => ⟨S4x16, .i32⟩
  | 11 => ⟨S4x16, .i32⟩
  | 12 => ⟨S4x16, .i32⟩
  | 13 => ⟨S4x16, .i32⟩
  | 14 => ⟨S4x16, .i32⟩
  | 15 => ⟨S_, .i32⟩
  | 16 => ⟨S4x16, .i32⟩
  | 17 => ⟨S4x16, .i32⟩
  | 18 => ⟨S_, .i32⟩
  | 19 => ⟨S4x16, .i32⟩
  | 20 => ⟨S4x16, .i32⟩
  | 21 => ⟨S4x16, .i32⟩
  | 22 => ⟨S4x16, .i32⟩
  | 23 => ⟨S4x16, .i32⟩
  | 24 => ⟨S_, .i32⟩
  | 25 => ⟨S4x16, .i32⟩
  | 26 => ⟨S4x16, .i32⟩
  | 27 => ⟨S_, .i32⟩
  | 28 => ⟨S4x16, .i32⟩
  | 29 => ⟨S4x16, .i32⟩
  | 30 => ⟨S4x16, .i32⟩
  | 31 => ⟨S4x16, .i32⟩
  | 32 => ⟨S4x16, .i32⟩
  | 33 => ⟨S_, .i32⟩
  | 34 => ⟨S4x16, .i32⟩
  | 35 => ⟨S4x16, .i32⟩
  | 36 => ⟨S_, .i32⟩
  | 37 => ⟨S4x16, .i32⟩
  | 38 => ⟨S4x16, .i32⟩
  | 39 => ⟨S4x16, .i32⟩
  | 40 => ⟨S4x16, .i32⟩
  | 41 => ⟨S4x16, .i32⟩
  | 42 => ⟨S4x16, .i32⟩
  | 43 => ⟨S4x16, .i32⟩
  | 44 => ⟨S4x16, .i32⟩
  | 45 => ⟨S_, .i32⟩
  | 46 => ⟨S4x16, .i32⟩
  | 47 => ⟨S4x16, .i32⟩
  | 48 => ⟨S4x16, .i32⟩
  | 49 => ⟨S_, .i32⟩
  | 50 => ⟨S4x16, .i32⟩
  | 51 => ⟨S4x16, .i32⟩
  | 52 => ⟨S_, .i32⟩
  | 53 => ⟨S4x16, .i32⟩
  | 54 => ⟨S4x16, .i32⟩
  | 55 => ⟨S4x16, .i32⟩
  | 56 => ⟨S4x16, .i32⟩
  | 57 => ⟨S4x16, .i32⟩
  | 58 => ⟨S_, .i32⟩
  | 59 => ⟨S4x16, .i32⟩
  | 60 => ⟨S4x16, .i32⟩
  | 61 => ⟨S_, .i32⟩
  | 62 => ⟨S4x16, .i32⟩
  | 63 => ⟨S4x16, .i32⟩
  | 64 => ⟨S4x16, .i32⟩
  | 65 => ⟨S4x16, .i32⟩
  | 66 => ⟨S4x16, .i32⟩
  | 67 => ⟨S_, .i32⟩
  | 68 => ⟨S4x16, .i32⟩
  | 69 => ⟨S4x16, .i32⟩
  | 70 => ⟨S_, .i32⟩
  | 71 => ⟨S4x16, .i32⟩
  | 72 => ⟨S4x16, .i32⟩
  | 73 => ⟨S4x16, .i32⟩
  | 74 => ⟨S4x16, .i32⟩
  | 75 => ⟨S4x16, .i32⟩
  | 76 => ⟨S_, .i32⟩
  | 77 => ⟨S4x16, .i32⟩
  | 78 => ⟨S4x16, .i32⟩
  | 79 => ⟨S_, .i32⟩
  | 80 => ⟨S4x16, .i32⟩
  | 81 => ⟨S4x16, .i32⟩
  | 82 => ⟨S4x16, .i32⟩
  | 83 => ⟨S4x16, .i32⟩
  | 84 => ⟨S4x16, .i32⟩
  | 85 => ⟨S4x16, .i32⟩
  | 86 => ⟨S4x16, .i32⟩
  | 87 => ⟨S4x16, .i32⟩
  | 88 => ⟨S_, .i32⟩
  | 89 => ⟨S4x16, .i32⟩
  | 90 => ⟨S4x16, .i32⟩
  | 91 => ⟨S4x16, .i32⟩
  | 92 => ⟨S_, .i32⟩
  | 93 => ⟨S4x16, .i32⟩
  | 94 => ⟨S4x16, .i32⟩
  | 95 => ⟨S_, .i32⟩
  | 96 => ⟨S4x16, .i32⟩
  | 97 => ⟨S4x16, .i32⟩
  | 98 => ⟨S4x16, .i32⟩
  | 99 => ⟨S4x16, .i32⟩
  | 100 => ⟨S4x16, .i32⟩
  | 101 => ⟨S_, .i32⟩
  | 102 => ⟨S4x16, .i32⟩
  | 103 => ⟨S4x16, .i32⟩
  | 104 => ⟨S_, .i32⟩
  | 105 => ⟨S4x16, .i32⟩
  | 106 => ⟨S4x16, .i32⟩
  | 107 => ⟨S4x16, .i32⟩
  | 108 => ⟨S4x16, .i32⟩
  | 109 => ⟨S4x16, .i32⟩
  | 110 => ⟨S_, .i32⟩
  | 111 => ⟨S4x16, .i32⟩
  | 112 => ⟨S4x16, .i32⟩
  | 113 => ⟨S_, .i32⟩
  | 114 => ⟨S4x16, .i32⟩
  | 115 => ⟨S4x16, .i32⟩
  | 116 => ⟨S4x16, .i32⟩
  | 117 => ⟨S4x16, .i32⟩
  | 118 => ⟨S4x16, .i32⟩
  | 119 => ⟨S_, .i32⟩
  | 120 => ⟨S4x16, .i32⟩
  | 121 => ⟨S4x16, .i32⟩
  | 122 => ⟨S_, .i32⟩
  | 123 => ⟨S4x16, .i32⟩
  | 124 => ⟨S4x16, .i32⟩
  | 125 => ⟨S4x16, .i32⟩
  | 126 => ⟨S4x16, .i32⟩
  | 127 => ⟨S4x16, .i32⟩
  | _ => ⟨S128x3x224x224, .f32⟩

abbrev hbmTy0_2 (i : Nat) : BufTy := match i % 128 with
  | 0 => ⟨S4x16, .i32⟩
  | 1 => ⟨S4x16, .i32⟩
  | 2 => ⟨S4x16, .i32⟩
  | 3 => ⟨S_, .i32⟩
  | 4 => ⟨S4x16, .i32⟩
  | 5 => ⟨S4x16, .i32⟩
  | 6 => ⟨S4x16, .i32⟩
  | 7 => ⟨S_, .i32⟩
  | 8 => ⟨S4x16, .i32⟩
  | 9 => ⟨S4x16, .i32⟩
  | 10 => ⟨S_, .i32⟩
  | 11 => ⟨S4x16, .i32⟩
  | 12 => ⟨S4x16, .i32⟩
  | 13 => ⟨S4x16, .f32⟩
  | 14 => ⟨S_, .f32⟩
  | 15 => ⟨S4x16, .f32⟩
  | 16 => ⟨S4x16, .f32⟩
  | 17 => ⟨S1x1, .f32⟩
  | 18 => ⟨S4x16, .f32⟩
  | 19 => ⟨S4x16, .f32⟩
  | 20 => ⟨S4x16, .f32⟩
  | 21 => ⟨S4x16, .f32⟩
  | 22 => ⟨S4x16, .f32⟩
  | 23 => ⟨S4x16, .f32⟩
  | 24 => ⟨S4x16, .f32⟩
  | 25 => ⟨S4x16, .f32⟩
  | 26 => ⟨S4x16, .f32⟩
  | 27 => ⟨S4x16, .f32⟩
  | 28 => ⟨S4x16, .i32⟩
  | 29 => ⟨S_, .f32⟩
  | 30 => ⟨S_, .i32⟩
  | 31 => ⟨S4, .f32⟩
  | 32 => ⟨S4, .i32⟩
  | 33 => ⟨S16, .i32⟩
  | 34 => ⟨S1x16, .i32⟩
  | 35 => ⟨S4x1, .i32⟩
  | 36 => ⟨S4x16, .i32⟩
  | 37 => ⟨S4x16, .i32⟩
  | 38 => ⟨S4x16, .i1⟩
  | 39 => ⟨S4x16, .f32⟩
  | 40 => ⟨S4x16, .f32⟩
  | 41 => ⟨S4x16, .f32⟩
  | 42 => ⟨S_, .f32⟩
  | 43 => ⟨S4, .f32⟩
  | 44 => ⟨S4x16, .f32⟩
  | 45 => ⟨S4x16, .f32⟩
  | 46 => ⟨S_, .f32⟩
  | 47 => ⟨S4, .f32⟩
  | 48 => ⟨S_, .i32⟩
  | 49 => ⟨S_, .i32⟩
  | 50 => ⟨S_, .i32⟩
  | 51 => ⟨S_, .i1⟩
  | 52 => ⟨S_, .i32⟩
  | 53 => ⟨S_, .i32⟩
  | 54 => ⟨S4, .i32⟩
  | 55 => ⟨S4, .i32⟩
  | 56 => ⟨S_, .i32⟩
  | 57 => ⟨S4, .i32⟩
  | 58 => ⟨S4, .i1⟩
  | 59 => ⟨S_, .i32⟩
  | 60 => ⟨S4, .i32⟩
  | 61 => ⟨S4, .i1⟩
  | 62 => ⟨S_, .i32⟩
  | 63 => ⟨S_, .i1⟩
  | 64 => ⟨S4, .i1⟩
  | 65 => ⟨S4, .i1⟩
  | 66 => ⟨S4, .i1⟩
  | 67 => ⟨S4, .i32⟩
  | 68 => ⟨S4, .i32⟩
  | 69 => ⟨S4, .i32⟩
  | 70 => ⟨S_, .i32⟩
  | 71 => ⟨S4, .i32⟩
  | 72 => ⟨S4, .i1⟩
  | 73 => ⟨S_, .i32⟩
  | 74 => ⟨S4, .i32⟩
  | 75 => ⟨S4, .i1⟩
  | 76 => ⟨S4, .i1⟩
  | 77 => ⟨S4, .i1⟩
  | 78 => ⟨S_, .i32⟩
  | 79 => ⟨S4, .i32⟩
  | 80 => ⟨S4, .i1⟩
  | 81 => ⟨S_, .f32⟩
  | 82 => ⟨S4, .f32⟩
  | 83 => ⟨S4, .f32⟩
  | 84 => ⟨S_, .i32⟩
  | 85 => ⟨S4, .i32⟩
  | 86 => ⟨S4, .i1⟩
  | 87 => ⟨S_, .i32⟩
  | 88 => ⟨S4, .i32⟩
  | 89 => ⟨S4, .i1⟩
  | 90 => ⟨S_, .i32⟩
  | 91 => ⟨S4, .i32⟩
  | 92 => ⟨S4, .i1⟩
  | 93 => ⟨S4, .f32⟩
  | 94 => ⟨S_, .f32⟩
  | 95 => ⟨S4, .f32⟩
  | 96 => ⟨S4, .f32⟩
  | 97 => ⟨S_, .f32⟩
  | 98 => ⟨S4, .f32⟩
  | 99 => ⟨S4, .f32⟩
  | 100 => ⟨S_, .f32⟩
  | 101 => ⟨S_, .f32⟩
  | 102 => ⟨S4, .f32⟩
  | 103 => ⟨S4, .f32⟩
  | 104 => ⟨S4, .f32⟩
  | 105 => ⟨S_, .f32⟩
  | 106 => ⟨S_, .f32⟩
  | 107 => ⟨S4, .f32⟩
  | 108 => ⟨S4, .f32⟩
  | 109 => ⟨S4, .f32⟩
  | 110 => ⟨S_, .i32⟩
  | 111 => ⟨S4, .i32⟩
  | 112 => ⟨S4, .i1⟩
  | 113 => ⟨S_, .i32⟩
  | 114 => ⟨S4, .i32⟩
  | 115 => ⟨S4, .i1⟩
  | 116 => ⟨S4, .i1⟩
  | 117 => ⟨S_, .i32⟩
  | 118 => ⟨S4, .i32⟩
  | 119 => ⟨S4, .i1⟩
  | 120 => ⟨S_, .f32⟩
  | 121 => ⟨S_, .f32⟩
  | 122 => ⟨S4, .f32⟩
  | 123 => ⟨S4, .f32⟩
  | 124 => ⟨S4, .f32⟩
  | 125 => ⟨S_, .f32⟩
  | 126 => ⟨S_, .f32⟩
  | 127 => ⟨S4, .f32⟩
  | _ => ⟨S128x3x224x224, .f32⟩

abbrev hbmTy0_3 (i : Nat) : BufTy := match i % 128 with
  | 0 => ⟨S4, .f32⟩
  | 1 => ⟨S4, .f32⟩
  | 2 => ⟨S4, .f32⟩
  | 3 => ⟨S4, .f32⟩
  | 4 => ⟨S_, .f32⟩
  | 5 => ⟨S_, .f32⟩
  | 6 => ⟨S4, .f32⟩
  | 7 => ⟨S4, .f32⟩
  | 8 => ⟨S_, .f32⟩
  | 9 => ⟨S_, .f32⟩
  | 10 => ⟨S4, .f32⟩
  | 11 => ⟨S4, .f32⟩
  | 12 => ⟨S_, .f32⟩
  | 13 => ⟨S4, .f32⟩
  | 14 => ⟨S4, .f32⟩
  | 15 => ⟨S_, .f32⟩
  | 16 => ⟨S_, .f32⟩
  | 17 => ⟨S4, .f32⟩
  | 18 => ⟨S4, .f32⟩
  | 19 => ⟨S1, .f32⟩
  | 20 => ⟨S_, .f32⟩
  | 21 => ⟨S1, .f32⟩
  | 22 => ⟨S_, .f32⟩
  | 23 => ⟨S1, .f32⟩
  | 24 => ⟨S_, .f32⟩
  | 25 => ⟨S_, .f32⟩
  | 26 => ⟨S1, .f32⟩
  | 27 => ⟨S_, .f32⟩
  | 28 => ⟨S_, .f32⟩
  | 29 => ⟨S1, .f32⟩
  | 30 => ⟨S_, .f32⟩
  | 31 => ⟨S_, .f32⟩
  | 32 => ⟨S1, .f32⟩
  | 33 => ⟨S_, .f32⟩
  | 34 => ⟨S_, .f32⟩
  | 35 => ⟨S1, .f32⟩
  | 36 => ⟨S_, .f32⟩
  | 37 => ⟨S_, .f32⟩
  | 38 => ⟨S1, .f32⟩
  | 39 => ⟨S_, .f32⟩
  | 40 => ⟨S_, .f32⟩
  | 41 => ⟨S1, .f32⟩
  | 42 => ⟨S_, .f32⟩
  | 43 => ⟨S_, .f32⟩
  | 44 => ⟨S1, .f32⟩
  | 45 => ⟨S_, .f32⟩
  | 46 => ⟨S_, .f32⟩
  | 47 => ⟨S1, .f32⟩
  | 48 => ⟨S_, .f32⟩
  | 49 => ⟨S_, .f32⟩
  | 50 => ⟨S1, .f32⟩
  | 51 => ⟨S1, .f32⟩
  | 52 => ⟨S2, .f32⟩
  | 53 => ⟨S4, .i1⟩
  | 54 => ⟨S_, .i1⟩
  | 55 => ⟨S_, .i1⟩
  | 56 => ⟨S_, .i32⟩
  | 57 => ⟨S128x3x224x224, .f32⟩
  | 58 => ⟨S128x3x224x224, .f32⟩
  | 59 => ⟨S128x3x224x224, .f32⟩
  | _ => ⟨S128x3x224x224, .f32⟩

abbrev hbmTy (i : Nat) : BufTy := match i / 128 with
  | 0 => hbmTy0_0 i
  | 1 => hbmTy0_1 i
  | 2 => hbmTy0_2 i
  | 3 => hbmTy0_3 i
  | _ => ⟨S128x3x224x224, .f32⟩

abbrev bufTy : (tb : Table) → Fin (tcTables nBuf tb) → BufTy
  | .hbm, ⟨i, _⟩ => hbmTy i
  | .local _ .vmem, ⟨0, _⟩ => ⟨S16x3x224x224, .f32⟩
  | .local _ .vmem, ⟨1, _⟩ => ⟨S16x3x224x224, .f32⟩
  | .local _ .vmem, ⟨2, _⟩ => ⟨S16x3x224x224, .f32⟩
  | .local _ .vmem, ⟨3, _⟩ => ⟨S16x3x224x224, .f32⟩
  | .local _ .vmem, ⟨4, _⟩ => ⟨S16x3x224x224, .f32⟩
  | .local _ .vmem, ⟨5, _⟩ => ⟨S16x3x224x224, .f32⟩
  | .local _ .vmem, ⟨6, _⟩ => ⟨S16x3x224x224, .f32⟩
  | .local _ .vmem, ⟨7, _⟩ => ⟨S16x3x224x224, .f32⟩
  | .local _ .smem, ⟨0, _⟩ => ⟨S2, .f32⟩
  | .local _ .smem, ⟨1, _⟩ => ⟨S4, .f32⟩
  | .local _ .smem, ⟨2, _⟩ => ⟨S4, .f32⟩
  | .local _ .smem, ⟨3, _⟩ => ⟨S4, .f32⟩
  | .local _ .smem, ⟨4, _⟩ => ⟨S4, .f32⟩
  | _, _ => ⟨S128x3x224x224, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | .smem, ⟨1, _⟩ => true
  | .smem, ⟨2, _⟩ => true
  | .smem, ⟨3, _⟩ => true
  | .smem, ⟨4, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_cst_3 : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_call0_v5 : Ref sig .tc := ⟨.hbm, 24, rfl⟩
abbrev main_call0_v6 : Ref sig .tc := ⟨.hbm, 25, rfl⟩
abbrev main_call0_v7 : Ref sig .tc := ⟨.hbm, 26, rfl⟩
abbrev main_call0_v8 : Ref sig .tc := ⟨.hbm, 27, rfl⟩
abbrev main_call0_c : Ref sig .tc := ⟨.hbm, 28, rfl⟩
abbrev main_call0_v9 : Ref sig .tc := ⟨.hbm, 29, rfl⟩
abbrev main_call0_v10 : Ref sig .tc := ⟨.hbm, 30, rfl⟩
abbrev main_call0_c_0 : Ref sig .tc := ⟨.hbm, 31, rfl⟩
abbrev main_call0_v11 : Ref sig .tc := ⟨.hbm, 32, rfl⟩
abbrev main_call0_v12 : Ref sig .tc := ⟨.hbm, 33, rfl⟩
abbrev main_call0_v13 : Ref sig .tc := ⟨.hbm, 34, rfl⟩
abbrev main_call0_c_1 : Ref sig .tc := ⟨.hbm, 35, rfl⟩
abbrev main_call0_v14 : Ref sig .tc := ⟨.hbm, 36, rfl⟩
abbrev main_call0_v15 : Ref sig .tc := ⟨.hbm, 37, rfl⟩
abbrev main_call0_v16 : Ref sig .tc := ⟨.hbm, 38, rfl⟩
abbrev main_call0_v17 : Ref sig .tc := ⟨.hbm, 39, rfl⟩
abbrev main_call0_call0_v0 : Ref sig .tc := ⟨.hbm, 40, rfl⟩
abbrev main_call0_call0_c : Ref sig .tc := ⟨.hbm, 41, rfl⟩
abbrev main_call0_call0_v1 : Ref sig .tc := ⟨.hbm, 42, rfl⟩
abbrev main_call0_call0_v2 : Ref sig .tc := ⟨.hbm, 43, rfl⟩
abbrev main_call0_call0_v3 : Ref sig .tc := ⟨.hbm, 44, rfl⟩
abbrev main_call0_call0_v4 : Ref sig .tc := ⟨.hbm, 45, rfl⟩
abbrev main_call0_call0_v5 : Ref sig .tc := ⟨.hbm, 46, rfl⟩
abbrev main_call0_call0_v6 : Ref sig .tc := ⟨.hbm, 47, rfl⟩
abbrev main_call0_call0_c_0 : Ref sig .tc := ⟨.hbm, 48, rfl⟩
abbrev main_call0_call0_v7 : Ref sig .tc := ⟨.hbm, 49, rfl⟩
abbrev main_call0_call0_v8 : Ref sig .tc := ⟨.hbm, 50, rfl⟩
abbrev main_call0_call0_c_1 : Ref sig .tc := ⟨.hbm, 51, rfl⟩
abbrev main_call0_call0_v9 : Ref sig .tc := ⟨.hbm, 52, rfl⟩
abbrev main_call0_call0_v10 : Ref sig .tc := ⟨.hbm, 53, rfl⟩
abbrev main_call0_call0_v11 : Ref sig .tc := ⟨.hbm, 54, rfl⟩
abbrev main_call0_call0_v12 : Ref sig .tc := ⟨.hbm, 55, rfl⟩
abbrev main_call0_call0_v13 : Ref sig .tc := ⟨.hbm, 56, rfl⟩
abbrev main_call0_call0_c_2 : Ref sig .tc := ⟨.hbm, 57, rfl⟩
abbrev main_call0_call0_v14 : Ref sig .tc := ⟨.hbm, 58, rfl⟩
abbrev main_call0_call0_v15 : Ref sig .tc := ⟨.hbm, 59, rfl⟩
abbrev main_call0_call0_c_3 : Ref sig .tc := ⟨.hbm, 60, rfl⟩
abbrev main_call0_call0_v16 : Ref sig .tc := ⟨.hbm, 61, rfl⟩
abbrev main_call0_call0_v17 : Ref sig .tc := ⟨.hbm, 62, rfl⟩
abbrev main_call0_call0_v18 : Ref sig .tc := ⟨.hbm, 63, rfl⟩
abbrev main_call0_call0_v19 : Ref sig .tc := ⟨.hbm, 64, rfl⟩
abbrev main_call0_call0_v20 : Ref sig .tc := ⟨.hbm, 65, rfl⟩
abbrev main_call0_call0_c_4 : Ref sig .tc := ⟨.hbm, 66, rfl⟩
abbrev main_call0_call0_v21 : Ref sig .tc := ⟨.hbm, 67, rfl⟩
abbrev main_call0_call0_v22 : Ref sig .tc := ⟨.hbm, 68, rfl⟩
abbrev main_call0_call0_c_5 : Ref sig .tc := ⟨.hbm, 69, rfl⟩
abbrev main_call0_call0_v23 : Ref sig .tc := ⟨.hbm, 70, rfl⟩
abbrev main_call0_call0_v24 : Ref sig .tc := ⟨.hbm, 71, rfl⟩
abbrev main_call0_call0_v25 : Ref sig .tc := ⟨.hbm, 72, rfl⟩
abbrev main_call0_call0_v26 : Ref sig .tc := ⟨.hbm, 73, rfl⟩
abbrev main_call0_call0_v27 : Ref sig .tc := ⟨.hbm, 74, rfl⟩
abbrev main_call0_call0_c_6 : Ref sig .tc := ⟨.hbm, 75, rfl⟩
abbrev main_call0_call0_v28 : Ref sig .tc := ⟨.hbm, 76, rfl⟩
abbrev main_call0_call0_v29 : Ref sig .tc := ⟨.hbm, 77, rfl⟩
abbrev main_call0_call0_c_7 : Ref sig .tc := ⟨.hbm, 78, rfl⟩
abbrev main_call0_call0_v30 : Ref sig .tc := ⟨.hbm, 79, rfl⟩
abbrev main_call0_call0_v31 : Ref sig .tc := ⟨.hbm, 80, rfl⟩
abbrev main_call0_call0_v32 : Ref sig .tc := ⟨.hbm, 81, rfl⟩
abbrev main_call0_call0_v33 : Ref sig .tc := ⟨.hbm, 82, rfl⟩
abbrev main_call0_call0_v34 : Ref sig .tc := ⟨.hbm, 83, rfl⟩
abbrev main_call0_call0_v35 : Ref sig .tc := ⟨.hbm, 84, rfl⟩
abbrev main_call0_call0_v36 : Ref sig .tc := ⟨.hbm, 85, rfl⟩
abbrev main_call0_call0_v37 : Ref sig .tc := ⟨.hbm, 86, rfl⟩
abbrev main_call0_call0_c_8 : Ref sig .tc := ⟨.hbm, 87, rfl⟩
abbrev main_call0_call0_v38 : Ref sig .tc := ⟨.hbm, 88, rfl⟩
abbrev main_call0_call0_v39 : Ref sig .tc := ⟨.hbm, 89, rfl⟩
abbrev main_call0_call0_v40 : Ref sig .tc := ⟨.hbm, 90, rfl⟩
abbrev main_call0_call0_c_9 : Ref sig .tc := ⟨.hbm, 91, rfl⟩
abbrev main_call0_call0_v41 : Ref sig .tc := ⟨.hbm, 92, rfl⟩
abbrev main_call0_call0_v42 : Ref sig .tc := ⟨.hbm, 93, rfl⟩
abbrev main_call0_call0_c_10 : Ref sig .tc := ⟨.hbm, 94, rfl⟩
abbrev main_call0_call0_v43 : Ref sig .tc := ⟨.hbm, 95, rfl⟩
abbrev main_call0_call0_v44 : Ref sig .tc := ⟨.hbm, 96, rfl⟩
abbrev main_call0_call0_v45 : Ref sig .tc := ⟨.hbm, 97, rfl⟩
abbrev main_call0_call0_v46 : Ref sig .tc := ⟨.hbm, 98, rfl⟩
abbrev main_call0_call0_v47 : Ref sig .tc := ⟨.hbm, 99, rfl⟩
abbrev main_call0_call0_c_11 : Ref sig .tc := ⟨.hbm, 100, rfl⟩
abbrev main_call0_call0_v48 : Ref sig .tc := ⟨.hbm, 101, rfl⟩
abbrev main_call0_call0_v49 : Ref sig .tc := ⟨.hbm, 102, rfl⟩
abbrev main_call0_call0_c_12 : Ref sig .tc := ⟨.hbm, 103, rfl⟩
abbrev main_call0_call0_v50 : Ref sig .tc := ⟨.hbm, 104, rfl⟩
abbrev main_call0_call0_v51 : Ref sig .tc := ⟨.hbm, 105, rfl⟩
abbrev main_call0_call0_v52 : Ref sig .tc := ⟨.hbm, 106, rfl⟩
abbrev main_call0_call0_v53 : Ref sig .tc := ⟨.hbm, 107, rfl⟩
abbrev main_call0_call0_v54 : Ref sig .tc := ⟨.hbm, 108, rfl⟩
abbrev main_call0_call0_c_13 : Ref sig .tc := ⟨.hbm, 109, rfl⟩
abbrev main_call0_call0_v55 : Ref sig .tc := ⟨.hbm, 110, rfl⟩
abbrev main_call0_call0_v56 : Ref sig .tc := ⟨.hbm, 111, rfl⟩
abbrev main_call0_call0_c_14 : Ref sig .tc := ⟨.hbm, 112, rfl⟩
abbrev main_call0_call0_v57 : Ref sig .tc := ⟨.hbm, 113, rfl⟩
abbrev main_call0_call0_v58 : Ref sig .tc := ⟨.hbm, 114, rfl⟩
abbrev main_call0_call0_v59 : Ref sig .tc := ⟨.hbm, 115, rfl⟩
abbrev main_call0_call0_v60 : Ref sig .tc := ⟨.hbm, 116, rfl⟩
abbrev main_call0_call0_v61 : Ref sig .tc := ⟨.hbm, 117, rfl⟩
abbrev main_call0_call0_c_15 : Ref sig .tc := ⟨.hbm, 118, rfl⟩
abbrev main_call0_call0_v62 : Ref sig .tc := ⟨.hbm, 119, rfl⟩
abbrev main_call0_call0_v63 : Ref sig .tc := ⟨.hbm, 120, rfl⟩
abbrev main_call0_call0_c_16 : Ref sig .tc := ⟨.hbm, 121, rfl⟩
abbrev main_call0_call0_v64 : Ref sig .tc := ⟨.hbm, 122, rfl⟩
abbrev main_call0_call0_v65 : Ref sig .tc := ⟨.hbm, 123, rfl⟩
abbrev main_call0_call0_v66 : Ref sig .tc := ⟨.hbm, 124, rfl⟩
abbrev main_call0_call0_v67 : Ref sig .tc := ⟨.hbm, 125, rfl⟩
abbrev main_call0_call0_v68 : Ref sig .tc := ⟨.hbm, 126, rfl⟩
abbrev main_call0_call0_v69 : Ref sig .tc := ⟨.hbm, 127, rfl⟩
abbrev main_call0_call0_v70 : Ref sig .tc := ⟨.hbm, 128, rfl⟩
abbrev main_call0_call0_v71 : Ref sig .tc := ⟨.hbm, 129, rfl⟩
abbrev main_call0_call0_c_17 : Ref sig .tc := ⟨.hbm, 130, rfl⟩
abbrev main_call0_call0_v72 : Ref sig .tc := ⟨.hbm, 131, rfl⟩
abbrev main_call0_call0_v73 : Ref sig .tc := ⟨.hbm, 132, rfl⟩
abbrev main_call0_call0_v74 : Ref sig .tc := ⟨.hbm, 133, rfl⟩
abbrev main_call0_call0_c_18 : Ref sig .tc := ⟨.hbm, 134, rfl⟩
abbrev main_call0_call0_v75 : Ref sig .tc := ⟨.hbm, 135, rfl⟩
abbrev main_call0_call0_v76 : Ref sig .tc := ⟨.hbm, 136, rfl⟩
abbrev main_call0_call0_c_19 : Ref sig .tc := ⟨.hbm, 137, rfl⟩
abbrev main_call0_call0_v77 : Ref sig .tc := ⟨.hbm, 138, rfl⟩
abbrev main_call0_call0_v78 : Ref sig .tc := ⟨.hbm, 139, rfl⟩
abbrev main_call0_call0_v79 : Ref sig .tc := ⟨.hbm, 140, rfl⟩
abbrev main_call0_call0_v80 : Ref sig .tc := ⟨.hbm, 141, rfl⟩
abbrev main_call0_call0_v81 : Ref sig .tc := ⟨.hbm, 142, rfl⟩
abbrev main_call0_call0_c_20 : Ref sig .tc := ⟨.hbm, 143, rfl⟩
abbrev main_call0_call0_v82 : Ref sig .tc := ⟨.hbm, 144, rfl⟩
abbrev main_call0_call0_v83 : Ref sig .tc := ⟨.hbm, 145, rfl⟩
abbrev main_call0_call0_c_21 : Ref sig .tc := ⟨.hbm, 146, rfl⟩
abbrev main_call0_call0_v84 : Ref sig .tc := ⟨.hbm, 147, rfl⟩
abbrev main_call0_call0_v85 : Ref sig .tc := ⟨.hbm, 148, rfl⟩
abbrev main_call0_call0_v86 : Ref sig .tc := ⟨.hbm, 149, rfl⟩
abbrev main_call0_call0_v87 : Ref sig .tc := ⟨.hbm, 150, rfl⟩
abbrev main_call0_call0_v88 : Ref sig .tc := ⟨.hbm, 151, rfl⟩
abbrev main_call0_call0_c_22 : Ref sig .tc := ⟨.hbm, 152, rfl⟩
abbrev main_call0_call0_v89 : Ref sig .tc := ⟨.hbm, 153, rfl⟩
abbrev main_call0_call0_v90 : Ref sig .tc := ⟨.hbm, 154, rfl⟩
abbrev main_call0_call0_c_23 : Ref sig .tc := ⟨.hbm, 155, rfl⟩
abbrev main_call0_call0_v91 : Ref sig .tc := ⟨.hbm, 156, rfl⟩
abbrev main_call0_call0_v92 : Ref sig .tc := ⟨.hbm, 157, rfl⟩
abbrev main_call0_call0_v93 : Ref sig .tc := ⟨.hbm, 158, rfl⟩
abbrev main_call0_call0_v94 : Ref sig .tc := ⟨.hbm, 159, rfl⟩
abbrev main_call0_call0_v95 : Ref sig .tc := ⟨.hbm, 160, rfl⟩
abbrev main_call0_call0_c_24 : Ref sig .tc := ⟨.hbm, 161, rfl⟩
abbrev main_call0_call0_v96 : Ref sig .tc := ⟨.hbm, 162, rfl⟩
abbrev main_call0_call0_v97 : Ref sig .tc := ⟨.hbm, 163, rfl⟩
abbrev main_call0_call0_c_25 : Ref sig .tc := ⟨.hbm, 164, rfl⟩
abbrev main_call0_call0_v98 : Ref sig .tc := ⟨.hbm, 165, rfl⟩
abbrev main_call0_call0_v99 : Ref sig .tc := ⟨.hbm, 166, rfl⟩
abbrev main_call0_call0_v100 : Ref sig .tc := ⟨.hbm, 167, rfl⟩
abbrev main_call0_call0_v101 : Ref sig .tc := ⟨.hbm, 168, rfl⟩
abbrev main_call0_call0_v102 : Ref sig .tc := ⟨.hbm, 169, rfl⟩
abbrev main_call0_call0_v103 : Ref sig .tc := ⟨.hbm, 170, rfl⟩
abbrev main_call0_call0_v104 : Ref sig .tc := ⟨.hbm, 171, rfl⟩
abbrev main_call0_call0_v105 : Ref sig .tc := ⟨.hbm, 172, rfl⟩
abbrev main_call0_call0_c_26 : Ref sig .tc := ⟨.hbm, 173, rfl⟩
abbrev main_call0_call0_v106 : Ref sig .tc := ⟨.hbm, 174, rfl⟩
abbrev main_call0_call0_v107 : Ref sig .tc := ⟨.hbm, 175, rfl⟩
abbrev main_call0_call0_v108 : Ref sig .tc := ⟨.hbm, 176, rfl⟩
abbrev main_call0_call0_c_27 : Ref sig .tc := ⟨.hbm, 177, rfl⟩
abbrev main_call0_call0_v109 : Ref sig .tc := ⟨.hbm, 178, rfl⟩
abbrev main_call0_call0_v110 : Ref sig .tc := ⟨.hbm, 179, rfl⟩
abbrev main_call0_call0_c_28 : Ref sig .tc := ⟨.hbm, 180, rfl⟩
abbrev main_call0_call0_v111 : Ref sig .tc := ⟨.hbm, 181, rfl⟩
abbrev main_call0_call0_v112 : Ref sig .tc := ⟨.hbm, 182, rfl⟩
abbrev main_call0_call0_v113 : Ref sig .tc := ⟨.hbm, 183, rfl⟩
abbrev main_call0_call0_v114 : Ref sig .tc := ⟨.hbm, 184, rfl⟩
abbrev main_call0_call0_v115 : Ref sig .tc := ⟨.hbm, 185, rfl⟩
abbrev main_call0_call0_c_29 : Ref sig .tc := ⟨.hbm, 186, rfl⟩
abbrev main_call0_call0_v116 : Ref sig .tc := ⟨.hbm, 187, rfl⟩
abbrev main_call0_call0_v117 : Ref sig .tc := ⟨.hbm, 188, rfl⟩
abbrev main_call0_call0_c_30 : Ref sig .tc := ⟨.hbm, 189, rfl⟩
abbrev main_call0_call0_v118 : Ref sig .tc := ⟨.hbm, 190, rfl⟩
abbrev main_call0_call0_v119 : Ref sig .tc := ⟨.hbm, 191, rfl⟩
abbrev main_call0_call0_v120 : Ref sig .tc := ⟨.hbm, 192, rfl⟩
abbrev main_call0_call0_v121 : Ref sig .tc := ⟨.hbm, 193, rfl⟩
abbrev main_call0_call0_v122 : Ref sig .tc := ⟨.hbm, 194, rfl⟩
abbrev main_call0_call0_c_31 : Ref sig .tc := ⟨.hbm, 195, rfl⟩
abbrev main_call0_call0_v123 : Ref sig .tc := ⟨.hbm, 196, rfl⟩
abbrev main_call0_call0_v124 : Ref sig .tc := ⟨.hbm, 197, rfl⟩
abbrev main_call0_call0_c_32 : Ref sig .tc := ⟨.hbm, 198, rfl⟩
abbrev main_call0_call0_v125 : Ref sig .tc := ⟨.hbm, 199, rfl⟩
abbrev main_call0_call0_v126 : Ref sig .tc := ⟨.hbm, 200, rfl⟩
abbrev main_call0_call0_v127 : Ref sig .tc := ⟨.hbm, 201, rfl⟩
abbrev main_call0_call0_v128 : Ref sig .tc := ⟨.hbm, 202, rfl⟩
abbrev main_call0_call0_v129 : Ref sig .tc := ⟨.hbm, 203, rfl⟩
abbrev main_call0_call0_c_33 : Ref sig .tc := ⟨.hbm, 204, rfl⟩
abbrev main_call0_call0_v130 : Ref sig .tc := ⟨.hbm, 205, rfl⟩
abbrev main_call0_call0_v131 : Ref sig .tc := ⟨.hbm, 206, rfl⟩
abbrev main_call0_call0_c_34 : Ref sig .tc := ⟨.hbm, 207, rfl⟩
abbrev main_call0_call0_v132 : Ref sig .tc := ⟨.hbm, 208, rfl⟩
abbrev main_call0_call0_v133 : Ref sig .tc := ⟨.hbm, 209, rfl⟩
abbrev main_call0_call0_v134 : Ref sig .tc := ⟨.hbm, 210, rfl⟩
abbrev main_call0_call0_v135 : Ref sig .tc := ⟨.hbm, 211, rfl⟩
abbrev main_call0_call0_v136 : Ref sig .tc := ⟨.hbm, 212, rfl⟩
abbrev main_call0_call0_v137 : Ref sig .tc := ⟨.hbm, 213, rfl⟩
abbrev main_call0_call0_v138 : Ref sig .tc := ⟨.hbm, 214, rfl⟩
abbrev main_call0_call0_v139 : Ref sig .tc := ⟨.hbm, 215, rfl⟩
abbrev main_call0_call0_c_35 : Ref sig .tc := ⟨.hbm, 216, rfl⟩
abbrev main_call0_call0_v140 : Ref sig .tc := ⟨.hbm, 217, rfl⟩
abbrev main_call0_call0_v141 : Ref sig .tc := ⟨.hbm, 218, rfl⟩
abbrev main_call0_call0_v142 : Ref sig .tc := ⟨.hbm, 219, rfl⟩
abbrev main_call0_call0_c_36 : Ref sig .tc := ⟨.hbm, 220, rfl⟩
abbrev main_call0_call0_v143 : Ref sig .tc := ⟨.hbm, 221, rfl⟩
abbrev main_call0_call0_v144 : Ref sig .tc := ⟨.hbm, 222, rfl⟩
abbrev main_call0_call0_c_37 : Ref sig .tc := ⟨.hbm, 223, rfl⟩
abbrev main_call0_call0_v145 : Ref sig .tc := ⟨.hbm, 224, rfl⟩
abbrev main_call0_call0_v146 : Ref sig .tc := ⟨.hbm, 225, rfl⟩
abbrev main_call0_call0_v147 : Ref sig .tc := ⟨.hbm, 226, rfl⟩
abbrev main_call0_call0_v148 : Ref sig .tc := ⟨.hbm, 227, rfl⟩
abbrev main_call0_call0_v149 : Ref sig .tc := ⟨.hbm, 228, rfl⟩
abbrev main_call0_call0_c_38 : Ref sig .tc := ⟨.hbm, 229, rfl⟩
abbrev main_call0_call0_v150 : Ref sig .tc := ⟨.hbm, 230, rfl⟩
abbrev main_call0_call0_v151 : Ref sig .tc := ⟨.hbm, 231, rfl⟩
abbrev main_call0_call0_c_39 : Ref sig .tc := ⟨.hbm, 232, rfl⟩
abbrev main_call0_call0_v152 : Ref sig .tc := ⟨.hbm, 233, rfl⟩
abbrev main_call0_call0_v153 : Ref sig .tc := ⟨.hbm, 234, rfl⟩
abbrev main_call0_call0_v154 : Ref sig .tc := ⟨.hbm, 235, rfl⟩
abbrev main_call0_call0_v155 : Ref sig .tc := ⟨.hbm, 236, rfl⟩
abbrev main_call0_call0_v156 : Ref sig .tc := ⟨.hbm, 237, rfl⟩
abbrev main_call0_call0_c_40 : Ref sig .tc := ⟨.hbm, 238, rfl⟩
abbrev main_call0_call0_v157 : Ref sig .tc := ⟨.hbm, 239, rfl⟩
abbrev main_call0_call0_v158 : Ref sig .tc := ⟨.hbm, 240, rfl⟩
abbrev main_call0_call0_c_41 : Ref sig .tc := ⟨.hbm, 241, rfl⟩
abbrev main_call0_call0_v159 : Ref sig .tc := ⟨.hbm, 242, rfl⟩
abbrev main_call0_call0_v160 : Ref sig .tc := ⟨.hbm, 243, rfl⟩
abbrev main_call0_call0_v161 : Ref sig .tc := ⟨.hbm, 244, rfl⟩
abbrev main_call0_call0_v162 : Ref sig .tc := ⟨.hbm, 245, rfl⟩
abbrev main_call0_call0_v163 : Ref sig .tc := ⟨.hbm, 246, rfl⟩
abbrev main_call0_call0_c_42 : Ref sig .tc := ⟨.hbm, 247, rfl⟩
abbrev main_call0_call0_v164 : Ref sig .tc := ⟨.hbm, 248, rfl⟩
abbrev main_call0_call0_v165 : Ref sig .tc := ⟨.hbm, 249, rfl⟩
abbrev main_call0_call0_c_43 : Ref sig .tc := ⟨.hbm, 250, rfl⟩
abbrev main_call0_call0_v166 : Ref sig .tc := ⟨.hbm, 251, rfl⟩
abbrev main_call0_call0_v167 : Ref sig .tc := ⟨.hbm, 252, rfl⟩
abbrev main_call0_call0_v168 : Ref sig .tc := ⟨.hbm, 253, rfl⟩
abbrev main_call0_call0_v169 : Ref sig .tc := ⟨.hbm, 254, rfl⟩
abbrev main_call0_call0_v170 : Ref sig .tc := ⟨.hbm, 255, rfl⟩
abbrev main_call0_v18_0 : Ref sig .tc := ⟨.hbm, 256, rfl⟩
abbrev main_call0_call0_v172 : Ref sig .tc := ⟨.hbm, 257, rfl⟩
abbrev main_call0_call0_v173 : Ref sig .tc := ⟨.hbm, 258, rfl⟩
abbrev main_call0_call0_c_44 : Ref sig .tc := ⟨.hbm, 259, rfl⟩
abbrev main_call0_call0_v174 : Ref sig .tc := ⟨.hbm, 260, rfl⟩
abbrev main_call0_v18_1 : Ref sig .tc := ⟨.hbm, 261, rfl⟩
abbrev main_call0_v19 : Ref sig .tc := ⟨.hbm, 262, rfl⟩
abbrev main_call0_c_2 : Ref sig .tc := ⟨.hbm, 263, rfl⟩
abbrev main_call0_v20 : Ref sig .tc := ⟨.hbm, 264, rfl⟩
abbrev main_call0_v21 : Ref sig .tc := ⟨.hbm, 265, rfl⟩
abbrev main_call0_c_3 : Ref sig .tc := ⟨.hbm, 266, rfl⟩
abbrev main_call0_v22 : Ref sig .tc := ⟨.hbm, 267, rfl⟩
abbrev main_call0_v23 : Ref sig .tc := ⟨.hbm, 268, rfl⟩
abbrev main_call0_v24 : Ref sig .tc := ⟨.hbm, 269, rfl⟩
abbrev main_call0_cst : Ref sig .tc := ⟨.hbm, 270, rfl⟩
abbrev main_call0_v25 : Ref sig .tc := ⟨.hbm, 271, rfl⟩
abbrev main_call0_v26 : Ref sig .tc := ⟨.hbm, 272, rfl⟩
abbrev main_call0_v27 : Ref sig .tc := ⟨.hbm, 273, rfl⟩
abbrev main_call0_v28 : Ref sig .tc := ⟨.hbm, 274, rfl⟩
abbrev main_call0_v29 : Ref sig .tc := ⟨.hbm, 275, rfl⟩
abbrev main_call0_v30 : Ref sig .tc := ⟨.hbm, 276, rfl⟩
abbrev main_call0_v31 : Ref sig .tc := ⟨.hbm, 277, rfl⟩
abbrev main_call0_v32 : Ref sig .tc := ⟨.hbm, 278, rfl⟩
abbrev main_v10 : Ref sig .tc := ⟨.hbm, 279, rfl⟩
abbrev main_v11 : Ref sig .tc := ⟨.hbm, 280, rfl⟩
abbrev main_v12 : Ref sig .tc := ⟨.hbm, 281, rfl⟩
abbrev main_v13 : Ref sig .tc := ⟨.hbm, 282, rfl⟩
abbrev main_v14 : Ref sig .tc := ⟨.hbm, 283, rfl⟩
abbrev main_call1_v0 : Ref sig .tc := ⟨.hbm, 284, rfl⟩
abbrev main_call1_cst : Ref sig .tc := ⟨.hbm, 285, rfl⟩
abbrev main_call1_c : Ref sig .tc := ⟨.hbm, 286, rfl⟩
abbrev main_call1_v1_0 : Ref sig .tc := ⟨.hbm, 287, rfl⟩
abbrev main_v15 : Ref sig .tc := ⟨.hbm, 288, rfl⟩
abbrev main_v16 : Ref sig .tc := ⟨.hbm, 289, rfl⟩
abbrev main_v17 : Ref sig .tc := ⟨.hbm, 290, rfl⟩
abbrev main_v18 : Ref sig .tc := ⟨.hbm, 291, rfl⟩
abbrev main_v19 : Ref sig .tc := ⟨.hbm, 292, rfl⟩
abbrev main_v20 : Ref sig .tc := ⟨.hbm, 293, rfl⟩
abbrev main_v21 : Ref sig .tc := ⟨.hbm, 294, rfl⟩
abbrev main_v22 : Ref sig .tc := ⟨.hbm, 295, rfl⟩
abbrev main_v23 : Ref sig .tc := ⟨.hbm, 296, rfl⟩
abbrev main_v24 : Ref sig .tc := ⟨.hbm, 297, rfl⟩
abbrev main_cst_4 : Ref sig .tc := ⟨.hbm, 298, rfl⟩
abbrev main_v25 : Ref sig .tc := ⟨.hbm, 299, rfl⟩
abbrev main_v26 : Ref sig .tc := ⟨.hbm, 300, rfl⟩
abbrev main_v27 : Ref sig .tc := ⟨.hbm, 301, rfl⟩
abbrev main_cst_5 : Ref sig .tc := ⟨.hbm, 302, rfl⟩
abbrev main_v28 : Ref sig .tc := ⟨.hbm, 303, rfl⟩
abbrev main_c_6 : Ref sig .tc := ⟨.hbm, 304, rfl⟩
abbrev main_call2_v0 : Ref sig .tc := ⟨.hbm, 305, rfl⟩
abbrev main_call2_c : Ref sig .tc := ⟨.hbm, 306, rfl⟩
abbrev main_call2_v1 : Ref sig .tc := ⟨.hbm, 307, rfl⟩
abbrev main_call2_c_0 : Ref sig .tc := ⟨.hbm, 308, rfl⟩
abbrev main_call2_v2 : Ref sig .tc := ⟨.hbm, 309, rfl⟩
abbrev main_call2_v3 : Ref sig .tc := ⟨.hbm, 310, rfl⟩
abbrev main_call2_v4 : Ref sig .tc := ⟨.hbm, 311, rfl⟩
abbrev main_call2_c_1 : Ref sig .tc := ⟨.hbm, 312, rfl⟩
abbrev main_call2_v5 : Ref sig .tc := ⟨.hbm, 313, rfl⟩
abbrev main_call2_v6 : Ref sig .tc := ⟨.hbm, 314, rfl⟩
abbrev main_call2_c_2 : Ref sig .tc := ⟨.hbm, 315, rfl⟩
abbrev main_call2_v7 : Ref sig .tc := ⟨.hbm, 316, rfl⟩
abbrev main_call2_v8 : Ref sig .tc := ⟨.hbm, 317, rfl⟩
abbrev main_call2_c_3 : Ref sig .tc := ⟨.hbm, 318, rfl⟩
abbrev main_call2_v9 : Ref sig .tc := ⟨.hbm, 319, rfl⟩
abbrev main_call2_v10 : Ref sig .tc := ⟨.hbm, 320, rfl⟩
abbrev main_call2_v11 : Ref sig .tc := ⟨.hbm, 321, rfl⟩
abbrev main_call2_v12 : Ref sig .tc := ⟨.hbm, 322, rfl⟩
abbrev main_call2_v13 : Ref sig .tc := ⟨.hbm, 323, rfl⟩
abbrev main_call2_v14 : Ref sig .tc := ⟨.hbm, 324, rfl⟩
abbrev main_v29 : Ref sig .tc := ⟨.hbm, 325, rfl⟩
abbrev main_c_7 : Ref sig .tc := ⟨.hbm, 326, rfl⟩
abbrev main_v30 : Ref sig .tc := ⟨.hbm, 327, rfl⟩
abbrev main_v31 : Ref sig .tc := ⟨.hbm, 328, rfl⟩
abbrev main_c_8 : Ref sig .tc := ⟨.hbm, 329, rfl⟩
abbrev main_v32 : Ref sig .tc := ⟨.hbm, 330, rfl⟩
abbrev main_v33 : Ref sig .tc := ⟨.hbm, 331, rfl⟩
abbrev main_v34 : Ref sig .tc := ⟨.hbm, 332, rfl⟩
abbrev main_v35 : Ref sig .tc := ⟨.hbm, 333, rfl⟩
abbrev main_c_9 : Ref sig .tc := ⟨.hbm, 334, rfl⟩
abbrev main_v36 : Ref sig .tc := ⟨.hbm, 335, rfl⟩
abbrev main_v37 : Ref sig .tc := ⟨.hbm, 336, rfl⟩
abbrev main_cst_10 : Ref sig .tc := ⟨.hbm, 337, rfl⟩
abbrev main_v38 : Ref sig .tc := ⟨.hbm, 338, rfl⟩
abbrev main_v39 : Ref sig .tc := ⟨.hbm, 339, rfl⟩
abbrev main_c_11 : Ref sig .tc := ⟨.hbm, 340, rfl⟩
abbrev main_v40 : Ref sig .tc := ⟨.hbm, 341, rfl⟩
abbrev main_v41 : Ref sig .tc := ⟨.hbm, 342, rfl⟩
abbrev main_c_12 : Ref sig .tc := ⟨.hbm, 343, rfl⟩
abbrev main_v42 : Ref sig .tc := ⟨.hbm, 344, rfl⟩
abbrev main_v43 : Ref sig .tc := ⟨.hbm, 345, rfl⟩
abbrev main_c_13 : Ref sig .tc := ⟨.hbm, 346, rfl⟩
abbrev main_v44 : Ref sig .tc := ⟨.hbm, 347, rfl⟩
abbrev main_v45 : Ref sig .tc := ⟨.hbm, 348, rfl⟩
abbrev main_v46 : Ref sig .tc := ⟨.hbm, 349, rfl⟩
abbrev main_cst_14 : Ref sig .tc := ⟨.hbm, 350, rfl⟩
abbrev main_v47 : Ref sig .tc := ⟨.hbm, 351, rfl⟩
abbrev main_v48 : Ref sig .tc := ⟨.hbm, 352, rfl⟩
abbrev main_cst_15 : Ref sig .tc := ⟨.hbm, 353, rfl⟩
abbrev main_v49 : Ref sig .tc := ⟨.hbm, 354, rfl⟩
abbrev main_v50 : Ref sig .tc := ⟨.hbm, 355, rfl⟩
abbrev main_cst_16 : Ref sig .tc := ⟨.hbm, 356, rfl⟩
abbrev main_call3_v0 : Ref sig .tc := ⟨.hbm, 357, rfl⟩
abbrev main_call3_v1 : Ref sig .tc := ⟨.hbm, 358, rfl⟩
abbrev main_v51 : Ref sig .tc := ⟨.hbm, 359, rfl⟩
abbrev main_v52 : Ref sig .tc := ⟨.hbm, 360, rfl⟩
abbrev main_cst_17 : Ref sig .tc := ⟨.hbm, 361, rfl⟩
abbrev main_call5_v0 : Ref sig .tc := ⟨.hbm, 362, rfl⟩
abbrev main_call5_v1 : Ref sig .tc := ⟨.hbm, 363, rfl⟩
abbrev main_v53 : Ref sig .tc := ⟨.hbm, 364, rfl⟩
abbrev main_v54 : Ref sig .tc := ⟨.hbm, 365, rfl⟩
abbrev main_c_18 : Ref sig .tc := ⟨.hbm, 366, rfl⟩
abbrev main_v55 : Ref sig .tc := ⟨.hbm, 367, rfl⟩
abbrev main_v56 : Ref sig .tc := ⟨.hbm, 368, rfl⟩
abbrev main_c_19 : Ref sig .tc := ⟨.hbm, 369, rfl⟩
abbrev main_v57 : Ref sig .tc := ⟨.hbm, 370, rfl⟩
abbrev main_v58 : Ref sig .tc := ⟨.hbm, 371, rfl⟩
abbrev main_v59 : Ref sig .tc := ⟨.hbm, 372, rfl⟩
abbrev main_c_20 : Ref sig .tc := ⟨.hbm, 373, rfl⟩
abbrev main_v60 : Ref sig .tc := ⟨.hbm, 374, rfl⟩
abbrev main_v61 : Ref sig .tc := ⟨.hbm, 375, rfl⟩
abbrev main_cst_21 : Ref sig .tc := ⟨.hbm, 376, rfl⟩
abbrev main_call7_v0 : Ref sig .tc := ⟨.hbm, 377, rfl⟩
abbrev main_call7_v1 : Ref sig .tc := ⟨.hbm, 378, rfl⟩
abbrev main_v62 : Ref sig .tc := ⟨.hbm, 379, rfl⟩
abbrev main_v63 : Ref sig .tc := ⟨.hbm, 380, rfl⟩
abbrev main_cst_22 : Ref sig .tc := ⟨.hbm, 381, rfl⟩
abbrev main_cst_23 : Ref sig .tc := ⟨.hbm, 382, rfl⟩
abbrev main_call9_v0 : Ref sig .tc := ⟨.hbm, 383, rfl⟩
abbrev main_call9_v1 : Ref sig .tc := ⟨.hbm, 384, rfl⟩
abbrev main_v64 : Ref sig .tc := ⟨.hbm, 385, rfl⟩
abbrev main_call10_v0 : Ref sig .tc := ⟨.hbm, 386, rfl⟩
abbrev main_v65 : Ref sig .tc := ⟨.hbm, 387, rfl⟩
abbrev main_cst_24 : Ref sig .tc := ⟨.hbm, 388, rfl⟩
abbrev main_call11_v0 : Ref sig .tc := ⟨.hbm, 389, rfl⟩
abbrev main_call11_v1 : Ref sig .tc := ⟨.hbm, 390, rfl⟩
abbrev main_v66 : Ref sig .tc := ⟨.hbm, 391, rfl⟩
abbrev main_cst_25 : Ref sig .tc := ⟨.hbm, 392, rfl⟩
abbrev main_call12_v0 : Ref sig .tc := ⟨.hbm, 393, rfl⟩
abbrev main_call12_v1 : Ref sig .tc := ⟨.hbm, 394, rfl⟩
abbrev main_v67 : Ref sig .tc := ⟨.hbm, 395, rfl⟩
abbrev main_cst_26 : Ref sig .tc := ⟨.hbm, 396, rfl⟩
abbrev main_v68 : Ref sig .tc := ⟨.hbm, 397, rfl⟩
abbrev main_v69 : Ref sig .tc := ⟨.hbm, 398, rfl⟩
abbrev main_cst_27 : Ref sig .tc := ⟨.hbm, 399, rfl⟩
abbrev main_call13_v0 : Ref sig .tc := ⟨.hbm, 400, rfl⟩
abbrev main_call13_v1 : Ref sig .tc := ⟨.hbm, 401, rfl⟩
abbrev main_v70 : Ref sig .tc := ⟨.hbm, 402, rfl⟩
abbrev main_v71 : Ref sig .tc := ⟨.hbm, 403, rfl⟩
abbrev main_v72 : Ref sig .tc := ⟨.hbm, 404, rfl⟩
abbrev main_v73 : Ref sig .tc := ⟨.hbm, 405, rfl⟩
abbrev main_v74 : Ref sig .tc := ⟨.hbm, 406, rfl⟩
abbrev main_v75 : Ref sig .tc := ⟨.hbm, 407, rfl⟩
abbrev main_v76 : Ref sig .tc := ⟨.hbm, 408, rfl⟩
abbrev main_v77 : Ref sig .tc := ⟨.hbm, 409, rfl⟩
abbrev main_v78 : Ref sig .tc := ⟨.hbm, 410, rfl⟩
abbrev main_v79 : Ref sig .tc := ⟨.hbm, 411, rfl⟩
abbrev main_v80 : Ref sig .tc := ⟨.hbm, 412, rfl⟩
abbrev main_v81 : Ref sig .tc := ⟨.hbm, 413, rfl⟩
abbrev main_v82 : Ref sig .tc := ⟨.hbm, 414, rfl⟩
abbrev main_v83 : Ref sig .tc := ⟨.hbm, 415, rfl⟩
abbrev main_v84 : Ref sig .tc := ⟨.hbm, 416, rfl⟩
abbrev main_v85 : Ref sig .tc := ⟨.hbm, 417, rfl⟩
abbrev main_v86 : Ref sig .tc := ⟨.hbm, 418, rfl⟩
abbrev main_v87 : Ref sig .tc := ⟨.hbm, 419, rfl⟩
abbrev main_v88 : Ref sig .tc := ⟨.hbm, 420, rfl⟩
abbrev main_v89 : Ref sig .tc := ⟨.hbm, 421, rfl⟩
abbrev main_v90 : Ref sig .tc := ⟨.hbm, 422, rfl⟩
abbrev main_v91 : Ref sig .tc := ⟨.hbm, 423, rfl⟩
abbrev main_v92 : Ref sig .tc := ⟨.hbm, 424, rfl⟩
abbrev main_v93 : Ref sig .tc := ⟨.hbm, 425, rfl⟩
abbrev main_v94 : Ref sig .tc := ⟨.hbm, 426, rfl⟩
abbrev main_v95 : Ref sig .tc := ⟨.hbm, 427, rfl⟩
abbrev main_v96 : Ref sig .tc := ⟨.hbm, 428, rfl⟩
abbrev main_v97 : Ref sig .tc := ⟨.hbm, 429, rfl⟩
abbrev main_v98 : Ref sig .tc := ⟨.hbm, 430, rfl⟩
abbrev main_v99 : Ref sig .tc := ⟨.hbm, 431, rfl⟩
abbrev main_v100 : Ref sig .tc := ⟨.hbm, 432, rfl⟩
abbrev main_v101 : Ref sig .tc := ⟨.hbm, 433, rfl⟩
abbrev main_v102 : Ref sig .tc := ⟨.hbm, 434, rfl⟩
abbrev main_v103 : Ref sig .tc := ⟨.hbm, 435, rfl⟩
abbrev main_v104 : Ref sig .tc := ⟨.hbm, 436, rfl⟩
abbrev main_v105 : Ref sig .tc := ⟨.hbm, 437, rfl⟩
abbrev main_c_28 : Ref sig .tc := ⟨.hbm, 438, rfl⟩
abbrev main_v106 : Ref sig .tc := ⟨.hbm, 439, rfl⟩
abbrev main_v107 : Ref sig .tc := ⟨.hbm, 440, rfl⟩
abbrev main_v108 : Ref sig .tc := ⟨.hbm, 441, rfl⟩
abbrev main_case0b0_v109 : Ref sig .tc := ⟨.hbm, 442, rfl⟩
abbrev main_case0b1_v109 : Ref sig .tc := ⟨.hbm, 443, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc1_stg4_0 : Ref sig .tc := ⟨.vmem, 4, rfl⟩
abbrev cc1_stg4_1 : Ref sig .tc := ⟨.vmem, 5, rfl⟩
abbrev cc1_stg5_0 : Ref sig .tc := ⟨.vmem, 6, rfl⟩
abbrev cc1_stg5_1 : Ref sig .tc := ⟨.vmem, 7, rfl⟩
abbrev cc0_stg0_0 : Ref sig .tc := ⟨.smem, 0, rfl⟩
abbrev cc1_stg0_0 : Ref sig .tc := ⟨.smem, 1, rfl⟩
abbrev cc1_stg1_0 : Ref sig .tc := ⟨.smem, 2, rfl⟩
abbrev cc1_stg2_0 : Ref sig .tc := ⟨.smem, 3, rfl⟩
abbrev cc1_stg3_0 : Ref sig .tc := ⟨.smem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc1_sem0_0 : DmaSem sig := 5
abbrev cc1_sem1_0 : DmaSem sig := 6
abbrev cc1_sem2_0 : DmaSem sig := 7
abbrev cc1_sem3_0 : DmaSem sig := 8
abbrev cc1_sem4_0 : DmaSem sig := 9
abbrev cc1_sem4_1 : DmaSem sig := 10
abbrev cc1_sem5_0 : DmaSem sig := 11
abbrev cc1_sem5_1 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 1 → Memref sig .tc .smem S2 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S16x3x224x224 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x3x224x224 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![8], ![false]⟩

def cc1_transform_0 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_5 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage1_0 : Fin 1 → Memref sig .tc .smem S4 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .smem S4 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .smem S4 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .smem S4 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S16x3x224x224 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S16x3x224x224 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]
-- ==== ReferenceIdeal.lean ====
abbrev S128x3x224x224 : Shape := ⟨4, ![128, 3, 224, 224]⟩
abbrev S4x16 : Shape := ⟨2, ![4, 16]⟩
abbrev S8x16 : Shape := ⟨2, ![8, 16]⟩
abbrev S_ : Shape := ⟨0, ![]⟩
abbrev S1 : Shape := ⟨1, ![1]⟩
abbrev S2 : Shape := ⟨1, ![2]⟩
abbrev S1x1 : Shape := ⟨2, ![1, 1]⟩
abbrev S4 : Shape := ⟨1, ![4]⟩

abbrev nBuf : Space → Nat
  | .hbm => 778
  | .vmem => 0
  | .smem => 0
  | _ => 0

abbrev hbmTy0_0 (i : Nat) : BufTy := match i % 128 with
  | 0 => ⟨S128x3x224x224, .f32⟩
  | 1 => ⟨S4x16, .f32⟩
  | 2 => ⟨S8x16, .f32⟩
  | 3 => ⟨S_, .i32⟩
  | 4 => ⟨S_, .i32⟩
  | 5 => ⟨S_, .i32⟩
  | 6 => ⟨S_, .i32⟩
  | 7 => ⟨S1, .i32⟩
  | 8 => ⟨S_, .i32⟩
  | 9 => ⟨S_, .i32⟩
  | 10 => ⟨S_, .i32⟩
  | 11 => ⟨S1, .i32⟩
  | 12 => ⟨S2, .i32⟩
  | 13 => ⟨S_, .f32⟩
  | 14 => ⟨S4x16, .f32⟩
  | 15 => ⟨S4x16, .f32⟩
  | 16 => ⟨S4x16, .f32⟩
  | 17 => ⟨S_, .f32⟩
  | 18 => ⟨S_, .f32⟩
  | 19 => ⟨S_, .f32⟩
  | 20 => ⟨S1x1, .f32⟩
  | 21 => ⟨S1x1, .f32⟩
  | 22 => ⟨S1, .i32⟩
  | 23 => ⟨S_, .i32⟩
  | 24 => ⟨S1, .i32⟩
  | 25 => ⟨S_, .i32⟩
  | 26 => ⟨S4x16, .i64⟩
  | 27 => ⟨S4x16, .i64⟩
  | 28 => ⟨S_, .i64⟩
  | 29 => ⟨S4x16, .i64⟩
  | 30 => ⟨S4x16, .i64⟩
  | 31 => ⟨S_, .i64⟩
  | 32 => ⟨S4x16, .i64⟩
  | 33 => ⟨S4x16, .i64⟩
  | 34 => ⟨S4x16, .i64⟩
  | 35 => ⟨S_, .i64⟩
  | 36 => ⟨S4x16, .i64⟩
  | 37 => ⟨S4x16, .i64⟩
  | 38 => ⟨S4x16, .i32⟩
  | 39 => ⟨S4x16, .i32⟩
  | 40 => ⟨S_, .i32⟩
  | 41 => ⟨S_, .i32⟩
  | 42 => ⟨S_, .i32⟩
  | 43 => ⟨S4x16, .i32⟩
  | 44 => ⟨S4x16, .i32⟩
  | 45 => ⟨S4x16, .i32⟩
  | 46 => ⟨S4x16, .i32⟩
  | 47 => ⟨S4x16, .i32⟩
  | 48 => ⟨S_, .i32⟩
  | 49 => ⟨S4x16, .i32⟩
  | 50 => ⟨S4x16, .i32⟩
  | 51 => ⟨S_, .i32⟩
  | 52 => ⟨S4x16, .i32⟩
  | 53 => ⟨S4x16, .i32⟩
  | 54 => ⟨S4x16, .i32⟩
  | 55 => ⟨S4x16, .i32⟩
  | 56 => ⟨S4x16, .i32⟩
  | 57 => ⟨S_, .i32⟩
  | 58 => ⟨S4x16, .i32⟩
  | 59 => ⟨S4x16, .i32⟩
  | 60 => ⟨S_, .i32⟩
  | 61 => ⟨S4x16, .i32⟩
  | 62 => ⟨S4x16, .i32⟩
  | 63 => ⟨S4x16, .i32⟩
  | 64 => ⟨S4x16, .i32⟩
  | 65 => ⟨S4x16, .i32⟩
  | 66 => ⟨S_, .i32⟩
  | 67 => ⟨S4x16, .i32⟩
  | 68 => ⟨S4x16, .i32⟩
  | 69 => ⟨S_, .i32⟩
  | 70 => ⟨S4x16, .i32⟩
  | 71 => ⟨S4x16, .i32⟩
  | 72 => ⟨S4x16, .i32⟩
  | 73 => ⟨S4x16, .i32⟩
  | 74 => ⟨S4x16, .i32⟩
  | 75 => ⟨S_, .i32⟩
  | 76 => ⟨S4x16, .i32⟩
  | 77 => ⟨S4x16, .i32⟩
  | 78 => ⟨S_, .i32⟩
  | 79 => ⟨S4x16, .i32⟩
  | 80 => ⟨S4x16, .i32⟩
  | 81 => ⟨S4x16, .i32⟩
  | 82 => ⟨S4x16, .i32⟩
  | 83 => ⟨S4x16, .i32⟩
  | 84 => ⟨S4x16, .i32⟩
  | 85 => ⟨S4x16, .i32⟩
  | 86 => ⟨S4x16, .i32⟩
  | 87 => ⟨S_, .i32⟩
  | 88 => ⟨S4x16, .i32⟩
  | 89 => ⟨S4x16, .i32⟩
  | 90 => ⟨S4x16, .i32⟩
  | 91 => ⟨S_, .i32⟩
  | 92 => ⟨S4x16, .i32⟩
  | 93 => ⟨S4x16, .i32⟩
  | 94 => ⟨S_, .i32⟩
  | 95 => ⟨S4x16, .i32⟩
  | 96 => ⟨S4x16, .i32⟩
  | 97 => ⟨S4x16, .i32⟩
  | 98 => ⟨S4x16, .i32⟩
  | 99 => ⟨S4x16, .i32⟩
  | 100 => ⟨S_, .i32⟩
  | 101 => ⟨S4x16, .i32⟩
  | 102 => ⟨S4x16, .i32⟩
  | 103 => ⟨S_, .i32⟩
  | 104 => ⟨S4x16, .i32⟩
  | 105 => ⟨S4x16, .i32⟩
  | 106 => ⟨S4x16, .i32⟩
  | 107 => ⟨S4x16, .i32⟩
  | 108 => ⟨S4x16, .i32⟩
  | 109 => ⟨S_, .i32⟩
  | 110 => ⟨S4x16, .i32⟩
  | 111 => ⟨S4x16, .i32⟩
  | 112 => ⟨S_, .i32⟩
  | 113 => ⟨S4x16, .i32⟩
  | 114 => ⟨S4x16, .i32⟩
  | 115 => ⟨S4x16, .i32⟩
  | 116 => ⟨S4x16, .i32⟩
  | 117 => ⟨S4x16, .i32⟩
  | 118 => ⟨S_, .i32⟩
  | 119 => ⟨S4x16, .i32⟩
  | 120 => ⟨S4x16, .i32⟩
  | 121 => ⟨S_, .i32⟩
  | 122 => ⟨S4x16, .i32⟩
  | 123 => ⟨S4x16, .i32⟩
  | 124 => ⟨S4x16, .i32⟩
  | 125 => ⟨S4x16, .i32⟩
  | 126 => ⟨S4x16, .i32⟩
  | 127 => ⟨S4x16, .i32⟩
  | _ => ⟨S128x3x224x224, .f32⟩

abbrev hbmTy0_1 (i : Nat) : BufTy := match i % 128 with
  | 0 => ⟨S4x16, .i32⟩
  | 1 => ⟨S4x16, .i32⟩
  | 2 => ⟨S_, .i32⟩
  | 3 => ⟨S4x16, .i32⟩
  | 4 => ⟨S4x16, .i32⟩
  | 5 => ⟨S4x16, .i32⟩
  | 6 => ⟨S_, .i32⟩
  | 7 => ⟨S4x16, .i32⟩
  | 8 => ⟨S4x16, .i32⟩
  | 9 => ⟨S_, .i32⟩
  | 10 => ⟨S4x16, .i32⟩
  | 11 => ⟨S4x16, .i32⟩
  | 12 => ⟨S4x16, .i32⟩
  | 13 => ⟨S4x16, .i32⟩
  | 14 => ⟨S4x16, .i32⟩
  | 15 => ⟨S_, .i32⟩
  | 16 => ⟨S4x16, .i32⟩
  | 17 => ⟨S4x16, .i32⟩
  | 18 => ⟨S_, .i32⟩
  | 19 => ⟨S4x16, .i32⟩
  | 20 => ⟨S4x16, .i32⟩
  | 21 => ⟨S4x16, .i32⟩
  | 22 => ⟨S4x16, .i32⟩
  | 23 => ⟨S4x16, .i32⟩
  | 24 => ⟨S_, .i32⟩
  | 25 => ⟨S4x16, .i32⟩
  | 26 => ⟨S4x16, .i32⟩
  | 27 => ⟨S_, .i32⟩
  | 28 => ⟨S4x16, .i32⟩
  | 29 => ⟨S4x16, .i32⟩
  | 30 => ⟨S4x16, .i32⟩
  | 31 => ⟨S4x16, .i32⟩
  | 32 => ⟨S4x16, .i32⟩
  | 33 => ⟨S_, .i32⟩
  | 34 => ⟨S4x16, .i32⟩
  | 35 => ⟨S4x16, .i32⟩
  | 36 => ⟨S_, .i32⟩
  | 37 => ⟨S4x16, .i32⟩
  | 38 => ⟨S4x16, .i32⟩
  | 39 => ⟨S4x16, .i32⟩
  | 40 => ⟨S4x16, .i32⟩
  | 41 => ⟨S4x16, .i32⟩
  | 42 => ⟨S4x16, .i32⟩
  | 43 => ⟨S4x16, .i32⟩
  | 44 => ⟨S4x16, .i32⟩
  | 45 => ⟨S_, .i32⟩
  | 46 => ⟨S4x16, .i32⟩
  | 47 => ⟨S4x16, .i32⟩
  | 48 => ⟨S4x16, .i32⟩
  | 49 => ⟨S_, .i32⟩
  | 50 => ⟨S4x16, .i32⟩
  | 51 => ⟨S4x16, .i32⟩
  | 52 => ⟨S_, .i32⟩
  | 53 => ⟨S4x16, .i32⟩
  | 54 => ⟨S4x16, .i32⟩
  | 55 => ⟨S4x16, .i32⟩
  | 56 => ⟨S4x16, .i32⟩
  | 57 => ⟨S4x16, .i32⟩
  | 58 => ⟨S_, .i32⟩
  | 59 => ⟨S4x16, .i32⟩
  | 60 => ⟨S4x16, .i32⟩
  | 61 => ⟨S_, .i32⟩
  | 62 => ⟨S4x16, .i32⟩
  | 63 => ⟨S4x16, .i32⟩
  | 64 => ⟨S4x16, .i32⟩
  | 65 => ⟨S4x16, .i32⟩
  | 66 => ⟨S4x16, .i32⟩
  | 67 => ⟨S_, .i32⟩
  | 68 => ⟨S4x16, .i32⟩
  | 69 => ⟨S4x16, .i32⟩
  | 70 => ⟨S_, .i32⟩
  | 71 => ⟨S4x16, .i32⟩
  | 72 => ⟨S4x16, .i32⟩
  | 73 => ⟨S4x16, .i32⟩
  | 74 => ⟨S4x16, .i32⟩
  | 75 => ⟨S4x16, .i32⟩
  | 76 => ⟨S_, .i32⟩
  | 77 => ⟨S4x16, .i32⟩
  | 78 => ⟨S4x16, .i32⟩
  | 79 => ⟨S_, .i32⟩
  | 80 => ⟨S4x16, .i32⟩
  | 81 => ⟨S4x16, .i32⟩
  | 82 => ⟨S4x16, .i32⟩
  | 83 => ⟨S4x16, .i32⟩
  | 84 => ⟨S4x16, .i32⟩
  | 85 => ⟨S4x16, .i32⟩
  | 86 => ⟨S4x16, .i32⟩
  | 87 => ⟨S4x16, .i32⟩
  | 88 => ⟨S_, .i32⟩
  | 89 => ⟨S4x16, .i32⟩
  | 90 => ⟨S4x16, .i32⟩
  | 91 => ⟨S4x16, .i32⟩
  | 92 => ⟨S_, .i32⟩
  | 93 => ⟨S4x16, .i32⟩
  | 94 => ⟨S4x16, .i32⟩
  | 95 => ⟨S_, .i32⟩
  | 96 => ⟨S4x16, .i32⟩
  | 97 => ⟨S4x16, .i32⟩
  | 98 => ⟨S4x16, .i32⟩
  | 99 => ⟨S4x16, .i32⟩
  | 100 => ⟨S4x16, .i32⟩
  | 101 => ⟨S_, .i32⟩
  | 102 => ⟨S4x16, .i32⟩
  | 103 => ⟨S4x16, .i32⟩
  | 104 => ⟨S_, .i32⟩
  | 105 => ⟨S4x16, .i32⟩
  | 106 => ⟨S4x16, .i32⟩
  | 107 => ⟨S4x16, .i32⟩
  | 108 => ⟨S4x16, .i32⟩
  | 109 => ⟨S4x16, .i32⟩
  | 110 => ⟨S_, .i32⟩
  | 111 => ⟨S4x16, .i32⟩
  | 112 => ⟨S4x16, .i32⟩
  | 113 => ⟨S_, .i32⟩
  | 114 => ⟨S4x16, .i32⟩
  | 115 => ⟨S4x16, .i32⟩
  | 116 => ⟨S4x16, .i32⟩
  | 117 => ⟨S4x16, .i32⟩
  | 118 => ⟨S4x16, .i32⟩
  | 119 => ⟨S_, .i32⟩
  | 120 => ⟨S4x16, .i32⟩
  | 121 => ⟨S4x16, .i32⟩
  | 122 => ⟨S_, .i32⟩
  | 123 => ⟨S4x16, .i32⟩
  | 124 => ⟨S4x16, .i32⟩
  | 125 => ⟨S4x16, .i32⟩
  | 126 => ⟨S4x16, .i32⟩
  | 127 => ⟨S4x16, .i32⟩
  | _ => ⟨S128x3x224x224, .f32⟩

abbrev hbmTy0_2 (i : Nat) : BufTy := match i % 128 with
  | 0 => ⟨S4x16, .i32⟩
  | 1 => ⟨S4x16, .i32⟩
  | 2 => ⟨S4x16, .i32⟩
  | 3 => ⟨S_, .i32⟩
  | 4 => ⟨S4x16, .i32⟩
  | 5 => ⟨S4x16, .i32⟩
  | 6 => ⟨S4x16, .i32⟩
  | 7 => ⟨S_, .i32⟩
  | 8 => ⟨S4x16, .i32⟩
  | 9 => ⟨S4x16, .i32⟩
  | 10 => ⟨S_, .i32⟩
  | 11 => ⟨S4x16, .i32⟩
  | 12 => ⟨S4x16, .i32⟩
  | 13 => ⟨S4x16, .f32⟩
  | 14 => ⟨S_, .f32⟩
  | 15 => ⟨S4x16, .f32⟩
  | 16 => ⟨S4x16, .f32⟩
  | 17 => ⟨S1x1, .f32⟩
  | 18 => ⟨S4x16, .f32⟩
  | 19 => ⟨S4x16, .f32⟩
  | 20 => ⟨S4x16, .f32⟩
  | 21 => ⟨S4x16, .f32⟩
  | 22 => ⟨S4x16, .f32⟩
  | 23 => ⟨S4x16, .f32⟩
  | 24 => ⟨S4x16, .f32⟩
  | 25 => ⟨S4x16, .f32⟩
  | 26 => ⟨S4x16, .f32⟩
  | 27 => ⟨S4x16, .f32⟩
  | 28 => ⟨S4x16, .f32⟩
  | 29 => ⟨S4x16, .i32⟩
  | 30 => ⟨S_, .f32⟩
  | 31 => ⟨S_, .i32⟩
  | 32 => ⟨S4, .f32⟩
  | 33 => ⟨S4, .i32⟩
  | 34 => ⟨S1x1, .f32⟩
  | 35 => ⟨S_, .f32⟩
  | 36 => ⟨S1x1, .f32⟩
  | 37 => ⟨S_, .f32⟩
  | 38 => ⟨S1x1, .f32⟩
  | 39 => ⟨S_, .f32⟩
  | 40 => ⟨S1x1, .f32⟩
  | 41 => ⟨S_, .f32⟩
  | 42 => ⟨S1x1, .f32⟩
  | 43 => ⟨S_, .f32⟩
  | 44 => ⟨S1x1, .f32⟩
  | 45 => ⟨S_, .f32⟩
  | 46 => ⟨S1x1, .f32⟩
  | 47 => ⟨S_, .f32⟩
  | 48 => ⟨S1x1, .f32⟩
  | 49 => ⟨S_, .f32⟩
  | 50 => ⟨S1x1, .f32⟩
  | 51 => ⟨S_, .f32⟩
  | 52 => ⟨S1x1, .f32⟩
  | 53 => ⟨S_, .f32⟩
  | 54 => ⟨S1x1, .f32⟩
  | 55 => ⟨S_, .f32⟩
  | 56 => ⟨S1x1, .f32⟩
  | 57 => ⟨S_, .f32⟩
  | 58 => ⟨S1x1, .f32⟩
  | 59 => ⟨S_, .f32⟩
  | 60 => ⟨S1x1, .f32⟩
  | 61 => ⟨S_, .f32⟩
  | 62 => ⟨S1x1, .f32⟩
  | 63 => ⟨S_, .f32⟩
  | 64 => ⟨S1x1, .f32⟩
  | 65 => ⟨S_, .f32⟩
  | 66 => ⟨S1x1, .f32⟩
  | 67 => ⟨S_, .f32⟩
  | 68 => ⟨S1x1, .f32⟩
  | 69 => ⟨S_, .f32⟩
  | 70 => ⟨S1x1, .f32⟩
  | 71 => ⟨S_, .f32⟩
  | 72 => ⟨S1x1, .f32⟩
  | 73 => ⟨S_, .f32⟩
  | 74 => ⟨S1x1, .f32⟩
  | 75 => ⟨S_, .f32⟩
  | 76 => ⟨S1x1, .f32⟩
  | 77 => ⟨S_, .f32⟩
  | 78 => ⟨S1x1, .f32⟩
  | 79 => ⟨S_, .f32⟩
  | 80 => ⟨S1x1, .f32⟩
  | 81 => ⟨S_, .f32⟩
  | 82 => ⟨S1x1, .f32⟩
  | 83 => ⟨S_, .f32⟩
  | 84 => ⟨S1x1, .f32⟩
  | 85 => ⟨S_, .f32⟩
  | 86 => ⟨S1x1, .f32⟩
  | 87 => ⟨S_, .f32⟩
  | 88 => ⟨S1x1, .f32⟩
  | 89 => ⟨S_, .f32⟩
  | 90 => ⟨S1x1, .f32⟩
  | 91 => ⟨S_, .f32⟩
  | 92 => ⟨S1x1, .f32⟩
  | 93 => ⟨S_, .f32⟩
  | 94 => ⟨S1x1, .f32⟩
  | 95 => ⟨S_, .f32⟩
  | 96 => ⟨S1x1, .f32⟩
  | 97 => ⟨S_, .f32⟩
  | 98 => ⟨S1, .i32⟩
  | 99 => ⟨S_, .i32⟩
  | 100 => ⟨S_, .i32⟩
  | 101 => ⟨S_, .i32⟩
  | 102 => ⟨S_, .i32⟩
  | 103 => ⟨S128x3x224x224, .f32⟩
  | 104 => ⟨S128x3x224x224, .f32⟩
  | 105 => ⟨S128x3x224x224, .f32⟩
  | 106 => ⟨S_, .f32⟩
  | 107 => ⟨S_, .f32⟩
  | 108 => ⟨S128x3x224x224, .f32⟩
  | 109 => ⟨S128x3x224x224, .f32⟩
  | 110 => ⟨S128x3x224x224, .f32⟩
  | 111 => ⟨S128x3x224x224, .f32⟩
  | 112 => ⟨S128x3x224x224, .f32⟩
  | 113 => ⟨S128x3x224x224, .f32⟩
  | 114 => ⟨S128x3x224x224, .f32⟩
  | 115 => ⟨S128x3x224x224, .f32⟩
  | 116 => ⟨S128x3x224x224, .f32⟩
  | 117 => ⟨S128x3x224x224, .f32⟩
  | 118 => ⟨S128x3x224x224, .f32⟩
  | 119 => ⟨S128x3x224x224, .f32⟩
  | 120 => ⟨S128x3x224x224, .f32⟩
  | 121 => ⟨S_, .f32⟩
  | 122 => ⟨S_, .f32⟩
  | 123 => ⟨S128x3x224x224, .f32⟩
  | 124 => ⟨S128x3x224x224, .f32⟩
  | 125 => ⟨S_, .f32⟩
  | 126 => ⟨S_, .f32⟩
  | 127 => ⟨S_, .f32⟩
  | _ => ⟨S128x3x224x224, .f32⟩

abbrev hbmTy0_3 (i : Nat) : BufTy := match i % 128 with
  | 0 => ⟨S128x3x224x224, .f32⟩
  | 1 => ⟨S128x3x224x224, .f32⟩
  | 2 => ⟨S128x3x224x224, .f32⟩
  | 3 => ⟨S128x3x224x224, .f32⟩
  | 4 => ⟨S_, .f32⟩
  | 5 => ⟨S_, .f32⟩
  | 6 => ⟨S128x3x224x224, .f32⟩
  | 7 => ⟨S128x3x224x224, .f32⟩
  | 8 => ⟨S128x3x224x224, .f32⟩
  | 9 => ⟨S128x3x224x224, .f32⟩
  | 10 => ⟨S128x3x224x224, .f32⟩
  | 11 => ⟨S128x3x224x224, .f32⟩
  | 12 => ⟨S128x3x224x224, .f32⟩
  | 13 => ⟨S128x3x224x224, .f32⟩
  | 14 => ⟨S128x3x224x224, .f32⟩
  | 15 => ⟨S128x3x224x224, .f32⟩
  | 16 => ⟨S128x3x224x224, .f32⟩
  | 17 => ⟨S128x3x224x224, .f32⟩
  | 18 => ⟨S128x3x224x224, .f32⟩
  | 19 => ⟨S_, .f32⟩
  | 20 => ⟨S_, .f32⟩
  | 21 => ⟨S128x3x224x224, .f32⟩
  | 22 => ⟨S128x3x224x224, .f32⟩
  | 23 => ⟨S_, .f32⟩
  | 24 => ⟨S_, .f32⟩
  | 25 => ⟨S_, .f32⟩
  | 26 => ⟨S128x3x224x224, .f32⟩
  | 27 => ⟨S128x3x224x224, .f32⟩
  | 28 => ⟨S1x1, .f32⟩
  | 29 => ⟨S_, .f32⟩
  | 30 => ⟨S1x1, .f32⟩
  | 31 => ⟨S_, .f32⟩
  | 32 => ⟨S1x1, .f32⟩
  | 33 => ⟨S_, .f32⟩
  | 34 => ⟨S1x1, .f32⟩
  | 35 => ⟨S_, .f32⟩
  | 36 => ⟨S1x1, .f32⟩
  | 37 => ⟨S_, .f32⟩
  | 38 => ⟨S1x1, .f32⟩
  | 39 => ⟨S_, .f32⟩
  | 40 => ⟨S1x1, .f32⟩
  | 41 => ⟨S_, .f32⟩
  | 42 => ⟨S1x1, .f32⟩
  | 43 => ⟨S_, .f32⟩
  | 44 => ⟨S1x1, .f32⟩
  | 45 => ⟨S_, .f32⟩
  | 46 => ⟨S1x1, .f32⟩
  | 47 => ⟨S_, .f32⟩
  | 48 => ⟨S1x1, .f32⟩
  | 49 => ⟨S_, .f32⟩
  | 50 => ⟨S1x1, .f32⟩
  | 51 => ⟨S_, .f32⟩
  | 52 => ⟨S1x1, .f32⟩
  | 53 => ⟨S_, .f32⟩
  | 54 => ⟨S1x1, .f32⟩
  | 55 => ⟨S_, .f32⟩
  | 56 => ⟨S1x1, .f32⟩
  | 57 => ⟨S_, .f32⟩
  | 58 => ⟨S1x1, .f32⟩
  | 59 => ⟨S_, .f32⟩
  | 60 => ⟨S1x1, .f32⟩
  | 61 => ⟨S_, .f32⟩
  | 62 => ⟨S1x1, .f32⟩
  | 63 => ⟨S_, .f32⟩
  | 64 => ⟨S1x1, .f32⟩
  | 65 => ⟨S_, .f32⟩
  | 66 => ⟨S1x1, .f32⟩
  | 67 => ⟨S_, .f32⟩
  | 68 => ⟨S1x1, .f32⟩
  | 69 => ⟨S_, .f32⟩
  | 70 => ⟨S1x1, .f32⟩
  | 71 => ⟨S_, .f32⟩
  | 72 => ⟨S1x1, .f32⟩
  | 73 => ⟨S_, .f32⟩
  | 74 => ⟨S1x1, .f32⟩
  | 75 => ⟨S_, .f32⟩
  | 76 => ⟨S1x1, .f32⟩
  | 77 => ⟨S_, .f32⟩
  | 78 => ⟨S1x1, .f32⟩
  | 79 => ⟨S_, .f32⟩
  | 80 => ⟨S1x1, .f32⟩
  | 81 => ⟨S_, .f32⟩
  | 82 => ⟨S1x1, .f32⟩
  | 83 => ⟨S_, .f32⟩
  | 84 => ⟨S1x1, .f32⟩
  | 85 => ⟨S_, .f32⟩
  | 86 => ⟨S1x1, .f32⟩
  | 87 => ⟨S_, .f32⟩
  | 88 => ⟨S1x1, .f32⟩
  | 89 => ⟨S_, .f32⟩
  | 90 => ⟨S1x1, .f32⟩
  | 91 => ⟨S_, .f32⟩
  | 92 => ⟨S1, .i32⟩
  | 93 => ⟨S_, .i32⟩
  | 94 => ⟨S_, .i32⟩
  | 95 => ⟨S_, .i32⟩
  | 96 => ⟨S_, .i32⟩
  | 97 => ⟨S128x3x224x224, .f32⟩
  | 98 => ⟨S128x3x224x224, .f32⟩
  | 99 => ⟨S128x3x224x224, .f32⟩
  | 100 => ⟨S_, .f32⟩
  | 101 => ⟨S_, .f32⟩
  | 102 => ⟨S128x3x224x224, .f32⟩
  | 103 => ⟨S128x3x224x224, .f32⟩
  | 104 => ⟨S128x3x224x224, .f32⟩
  | 105 => ⟨S128x3x224x224, .f32⟩
  | 106 => ⟨S128x3x224x224, .f32⟩
  | 107 => ⟨S128x3x224x224, .f32⟩
  | 108 => ⟨S128x3x224x224, .f32⟩
  | 109 => ⟨S128x3x224x224, .f32⟩
  | 110 => ⟨S128x3x224x224, .f32⟩
  | 111 => ⟨S128x3x224x224, .f32⟩
  | 112 => ⟨S128x3x224x224, .f32⟩
  | 113 => ⟨S128x3x224x224, .f32⟩
  | 114 => ⟨S128x3x224x224, .f32⟩
  | 115 => ⟨S_, .f32⟩
  | 116 => ⟨S_, .f32⟩
  | 117 => ⟨S128x3x224x224, .f32⟩
  | 118 => ⟨S128x3x224x224, .f32⟩
  | 119 => ⟨S_, .f32⟩
  | 120 => ⟨S_, .f32⟩
  | 121 => ⟨S_, .f32⟩
  | 122 => ⟨S128x3x224x224, .f32⟩
  | 123 => ⟨S128x3x224x224, .f32⟩
  | 124 => ⟨S128x3x224x224, .f32⟩
  | 125 => ⟨S128x3x224x224, .f32⟩
  | 126 => ⟨S_, .f32⟩
  | 127 => ⟨S_, .f32⟩
  | _ => ⟨S128x3x224x224, .f32⟩

abbrev hbmTy0_4 (i : Nat) : BufTy := match i % 128 with
  | 0 => ⟨S128x3x224x224, .f32⟩
  | 1 => ⟨S128x3x224x224, .f32⟩
  | 2 => ⟨S128x3x224x224, .f32⟩
  | 3 => ⟨S128x3x224x224, .f32⟩
  | 4 => ⟨S128x3x224x224, .f32⟩
  | 5 => ⟨S128x3x224x224, .f32⟩
  | 6 => ⟨S128x3x224x224, .f32⟩
  | 7 => ⟨S128x3x224x224, .f32⟩
  | 8 => ⟨S128x3x224x224, .f32⟩
  | 9 => ⟨S128x3x224x224, .f32⟩
  | 10 => ⟨S128x3x224x224, .f32⟩
  | 11 => ⟨S128x3x224x224, .f32⟩
  | 12 => ⟨S128x3x224x224, .f32⟩
  | 13 => ⟨S_, .f32⟩
  | 14 => ⟨S_, .f32⟩
  | 15 => ⟨S128x3x224x224, .f32⟩
  | 16 => ⟨S128x3x224x224, .f32⟩
  | 17 => ⟨S_, .f32⟩
  | 18 => ⟨S_, .f32⟩
  | 19 => ⟨S_, .f32⟩
  | 20 => ⟨S128x3x224x224, .f32⟩
  | 21 => ⟨S128x3x224x224, .f32⟩
  | 22 => ⟨S1x1, .f32⟩
  | 23 => ⟨S_, .f32⟩
  | 24 => ⟨S1x1, .f32⟩
  | 25 => ⟨S_, .f32⟩
  | 26 => ⟨S1x1, .f32⟩
  | 27 => ⟨S_, .f32⟩
  | 28 => ⟨S1x1, .f32⟩
  | 29 => ⟨S_, .f32⟩
  | 30 => ⟨S1x1, .f32⟩
  | 31 => ⟨S_, .f32⟩
  | 32 => ⟨S1x1, .f32⟩
  | 33 => ⟨S_, .f32⟩
  | 34 => ⟨S1x1, .f32⟩
  | 35 => ⟨S_, .f32⟩
  | 36 => ⟨S1x1, .f32⟩
  | 37 => ⟨S_, .f32⟩
  | 38 => ⟨S1x1, .f32⟩
  | 39 => ⟨S_, .f32⟩
  | 40 => ⟨S1x1, .f32⟩
  | 41 => ⟨S_, .f32⟩
  | 42 => ⟨S1x1, .f32⟩
  | 43 => ⟨S_, .f32⟩
  | 44 => ⟨S1x1, .f32⟩
  | 45 => ⟨S_, .f32⟩
  | 46 => ⟨S1x1, .f32⟩
  | 47 => ⟨S_, .f32⟩
  | 48 => ⟨S1x1, .f32⟩
  | 49 => ⟨S_, .f32⟩
  | 50 => ⟨S1x1, .f32⟩
  | 51 => ⟨S_, .f32⟩
  | 52 => ⟨S1x1, .f32⟩
  | 53 => ⟨S_, .f32⟩
  | 54 => ⟨S1x1, .f32⟩
  | 55 => ⟨S_, .f32⟩
  | 56 => ⟨S1x1, .f32⟩
  | 57 => ⟨S_, .f32⟩
  | 58 => ⟨S1x1, .f32⟩
  | 59 => ⟨S_, .f32⟩
  | 60 => ⟨S1x1, .f32⟩
  | 61 => ⟨S_, .f32⟩
  | 62 => ⟨S1x1, .f32⟩
  | 63 => ⟨S_, .f32⟩
  | 64 => ⟨S1x1, .f32⟩
  | 65 => ⟨S_, .f32⟩
  | 66 => ⟨S1x1, .f32⟩
  | 67 => ⟨S_, .f32⟩
  | 68 => ⟨S1x1, .f32⟩
  | 69 => ⟨S_, .f32⟩
  | 70 => ⟨S1x1, .f32⟩
  | 71 => ⟨S_, .f32⟩
  | 72 => ⟨S1x1, .f32⟩
  | 73 => ⟨S_, .f32⟩
  | 74 => ⟨S1x1, .f32⟩
  | 75 => ⟨S_, .f32⟩
  | 76 => ⟨S1x1, .f32⟩
  | 77 => ⟨S_, .f32⟩
  | 78 => ⟨S1x1, .f32⟩
  | 79 => ⟨S_, .f32⟩
  | 80 => ⟨S1x1, .f32⟩
  | 81 => ⟨S_, .f32⟩
  | 82 => ⟨S1x1, .f32⟩
  | 83 => ⟨S_, .f32⟩
  | 84 => ⟨S1x1, .f32⟩
  | 85 => ⟨S_, .f32⟩
  | 86 => ⟨S1, .i32⟩
  | 87 => ⟨S_, .i32⟩
  | 88 => ⟨S_, .i32⟩
  | 89 => ⟨S_, .i32⟩
  | 90 => ⟨S_, .i32⟩
  | 91 => ⟨S128x3x224x224, .f32⟩
  | 92 => ⟨S128x3x224x224, .f32⟩
  | 93 => ⟨S128x3x224x224, .f32⟩
  | 94 => ⟨S_, .f32⟩
  | 95 => ⟨S_, .f32⟩
  | 96 => ⟨S128x3x224x224, .f32⟩
  | 97 => ⟨S128x3x224x224, .f32⟩
  | 98 => ⟨S128x3x224x224, .f32⟩
  | 99 => ⟨S128x3x224x224, .f32⟩
  | 100 => ⟨S128x3x224x224, .f32⟩
  | 101 => ⟨S128x3x224x224, .f32⟩
  | 102 => ⟨S128x3x224x224, .f32⟩
  | 103 => ⟨S128x3x224x224, .f32⟩
  | 104 => ⟨S128x3x224x224, .f32⟩
  | 105 => ⟨S128x3x224x224, .f32⟩
  | 106 => ⟨S128x3x224x224, .f32⟩
  | 107 => ⟨S128x3x224x224, .f32⟩
  | 108 => ⟨S128x3x224x224, .f32⟩
  | 109 => ⟨S_, .f32⟩
  | 110 => ⟨S_, .f32⟩
  | 111 => ⟨S128x3x224x224, .f32⟩
  | 112 => ⟨S128x3x224x224, .f32⟩
  | 113 => ⟨S_, .f32⟩
  | 114 => ⟨S_, .f32⟩
  | 115 => ⟨S_, .f32⟩
  | 116 => ⟨S128x3x224x224, .f32⟩
  | 117 => ⟨S128x3x224x224, .f32⟩
  | 118 => ⟨S128x3x224x224, .f32⟩
  | 119 => ⟨S128x3x224x224, .f32⟩
  | 120 => ⟨S_, .f32⟩
  | 121 => ⟨S_, .f32⟩
  | 122 => ⟨S128x3x224x224, .f32⟩
  | 123 => ⟨S128x3x224x224, .f32⟩
  | 124 => ⟨S128x3x224x224, .f32⟩
  | 125 => ⟨S128x3x224x224, .f32⟩
  | 126 => ⟨S128x3x224x224, .f32⟩
  | 127 => ⟨S128x3x224x224, .f32⟩
  | _ => ⟨S128x3x224x224, .f32⟩

abbrev hbmTy0_5 (i : Nat) : BufTy := match i % 128 with
  | 0 => ⟨S128x3x224x224, .f32⟩
  | 1 => ⟨S128x3x224x224, .f32⟩
  | 2 => ⟨S128x3x224x224, .f32⟩
  | 3 => ⟨S128x3x224x224, .f32⟩
  | 4 => ⟨S128x3x224x224, .f32⟩
  | 5 => ⟨S128x3x224x224, .f32⟩
  | 6 => ⟨S128x3x224x224, .f32⟩
  | 7 => ⟨S_, .f32⟩
  | 8 => ⟨S_, .f32⟩
  | 9 => ⟨S128x3x224x224, .f32⟩
  | 10 => ⟨S128x3x224x224, .f32⟩
  | 11 => ⟨S_, .f32⟩
  | 12 => ⟨S_, .f32⟩
  | 13 => ⟨S_, .f32⟩
  | 14 => ⟨S128x3x224x224, .f32⟩
  | 15 => ⟨S128x3x224x224, .f32⟩
  | 16 => ⟨S1x1, .f32⟩
  | 17 => ⟨S_, .f32⟩
  | 18 => ⟨S1x1, .f32⟩
  | 19 => ⟨S_, .f32⟩
  | 20 => ⟨S1x1, .f32⟩
  | 21 => ⟨S_, .f32⟩
  | 22 => ⟨S1x1, .f32⟩
  | 23 => ⟨S_, .f32⟩
  | 24 => ⟨S1x1, .f32⟩
  | 25 => ⟨S_, .f32⟩
  | 26 => ⟨S1x1, .f32⟩
  | 27 => ⟨S_, .f32⟩
  | 28 => ⟨S1x1, .f32⟩
  | 29 => ⟨S_, .f32⟩
  | 30 => ⟨S1x1, .f32⟩
  | 31 => ⟨S_, .f32⟩
  | 32 => ⟨S1x1, .f32⟩
  | 33 => ⟨S_, .f32⟩
  | 34 => ⟨S1x1, .f32⟩
  | 35 => ⟨S_, .f32⟩
  | 36 => ⟨S1x1, .f32⟩
  | 37 => ⟨S_, .f32⟩
  | 38 => ⟨S1x1, .f32⟩
  | 39 => ⟨S_, .f32⟩
  | 40 => ⟨S1x1, .f32⟩
  | 41 => ⟨S_, .f32⟩
  | 42 => ⟨S1x1, .f32⟩
  | 43 => ⟨S_, .f32⟩
  | 44 => ⟨S1x1, .f32⟩
  | 45 => ⟨S_, .f32⟩
  | 46 => ⟨S1x1, .f32⟩
  | 47 => ⟨S_, .f32⟩
  | 48 => ⟨S1x1, .f32⟩
  | 49 => ⟨S_, .f32⟩
  | 50 => ⟨S1x1, .f32⟩
  | 51 => ⟨S_, .f32⟩
  | 52 => ⟨S1x1, .f32⟩
  | 53 => ⟨S_, .f32⟩
  | 54 => ⟨S1x1, .f32⟩
  | 55 => ⟨S_, .f32⟩
  | 56 => ⟨S1x1, .f32⟩
  | 57 => ⟨S_, .f32⟩
  | 58 => ⟨S1x1, .f32⟩
  | 59 => ⟨S_, .f32⟩
  | 60 => ⟨S1x1, .f32⟩
  | 61 => ⟨S_, .f32⟩
  | 62 => ⟨S1x1, .f32⟩
  | 63 => ⟨S_, .f32⟩
  | 64 => ⟨S1x1, .f32⟩
  | 65 => ⟨S_, .f32⟩
  | 66 => ⟨S1x1, .f32⟩
  | 67 => ⟨S_, .f32⟩
  | 68 => ⟨S1x1, .f32⟩
  | 69 => ⟨S_, .f32⟩
  | 70 => ⟨S1x1, .f32⟩
  | 71 => ⟨S_, .f32⟩
  | 72 => ⟨S1x1, .f32⟩
  | 73 => ⟨S_, .f32⟩
  | 74 => ⟨S1x1, .f32⟩
  | 75 => ⟨S_, .f32⟩
  | 76 => ⟨S1x1, .f32⟩
  | 77 => ⟨S_, .f32⟩
  | 78 => ⟨S1x1, .f32⟩
  | 79 => ⟨S_, .f32⟩
  | 80 => ⟨S1, .i32⟩
  | 81 => ⟨S_, .i32⟩
  | 82 => ⟨S_, .i32⟩
  | 83 => ⟨S_, .i32⟩
  | 84 => ⟨S_, .i32⟩
  | 85 => ⟨S128x3x224x224, .f32⟩
  | 86 => ⟨S128x3x224x224, .f32⟩
  | 87 => ⟨S128x3x224x224, .f32⟩
  | 88 => ⟨S_, .f32⟩
  | 89 => ⟨S_, .f32⟩
  | 90 => ⟨S128x3x224x224, .f32⟩
  | 91 => ⟨S128x3x224x224, .f32⟩
  | 92 => ⟨S128x3x224x224, .f32⟩
  | 93 => ⟨S128x3x224x224, .f32⟩
  | 94 => ⟨S128x3x224x224, .f32⟩
  | 95 => ⟨S128x3x224x224, .f32⟩
  | 96 => ⟨S128x3x224x224, .f32⟩
  | 97 => ⟨S128x3x224x224, .f32⟩
  | 98 => ⟨S128x3x224x224, .f32⟩
  | 99 => ⟨S128x3x224x224, .f32⟩
  | 100 => ⟨S128x3x224x224, .f32⟩
  | 101 => ⟨S128x3x224x224, .f32⟩
  | 102 => ⟨S128x3x224x224, .f32⟩
  | 103 => ⟨S_, .f32⟩
  | 104 => ⟨S_, .f32⟩
  | 105 => ⟨S128x3x224x224, .f32⟩
  | 106 => ⟨S128x3x224x224, .f32⟩
  | 107 => ⟨S_, .f32⟩
  | 108 => ⟨S_, .f32⟩
  | 109 => ⟨S_, .f32⟩
  | 110 => ⟨S128x3x224x224, .f32⟩
  | 111 => ⟨S128x3x224x224, .f32⟩
  | 112 => ⟨S128x3x224x224, .f32⟩
  | 113 => ⟨S128x3x224x224, .f32⟩
  | 114 => ⟨S_, .f32⟩
  | 115 => ⟨S_, .f32⟩
  | 116 => ⟨S128x3x224x224, .f32⟩
  | 117 => ⟨S128x3x224x224, .f32⟩
  | 118 => ⟨S128x3x224x224, .f32⟩
  | 119 => ⟨S128x3x224x224, .f32⟩
  | 120 => ⟨S128x3x224x224, .f32⟩
  | 121 => ⟨S128x3x224x224, .f32⟩
  | 122 => ⟨S128x3x224x224, .f32⟩
  | 123 => ⟨S128x3x224x224, .f32⟩
  | 124 => ⟨S128x3x224x224, .f32⟩
  | 125 => ⟨S128x3x224x224, .f32⟩
  | 126 => ⟨S128x3x224x224, .f32⟩
  | 127 => ⟨S128x3x224x224, .f32⟩
  | _ => ⟨S128x3x224x224, .f32⟩

abbrev hbmTy0_6 (i : Nat) : BufTy := match i % 128 with
  | 0 => ⟨S128x3x224x224, .f32⟩
  | 1 => ⟨S_, .f32⟩
  | 2 => ⟨S_, .f32⟩
  | 3 => ⟨S128x3x224x224, .f32⟩
  | 4 => ⟨S128x3x224x224, .f32⟩
  | 5 => ⟨S_, .f32⟩
  | 6 => ⟨S_, .f32⟩
  | 7 => ⟨S_, .f32⟩
  | 8 => ⟨S128x3x224x224, .f32⟩
  | 9 => ⟨S128x3x224x224, .f32⟩
  | _ => ⟨S128x3x224x224, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | _ => ⟨S128x3x224x224, .f32⟩

abbrev bufTy : (tb : Table) → Fin (tcTables nBuf tb) → BufTy
  | .hbm, ⟨i, _⟩ => hbmTy i
  | _, _ => ⟨S128x3x224x224, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c_1 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_call0_cst : Ref sig .tc := ⟨.hbm, 17, rfl⟩
abbrev main_call0_cst_0 : Ref sig .tc := ⟨.hbm, 18, rfl⟩
abbrev main_call0_call0_v0 : Ref sig .tc := ⟨.hbm, 19, rfl⟩
abbrev main_call0_call0_v1 : Ref sig .tc := ⟨.hbm, 20, rfl⟩
abbrev main_call0_call0_v2 : Ref sig .tc := ⟨.hbm, 21, rfl⟩
abbrev main_call0_call0_v3 : Ref sig .tc := ⟨.hbm, 22, rfl⟩
abbrev main_call0_call0_v4 : Ref sig .tc := ⟨.hbm, 23, rfl⟩
abbrev main_call0_call0_v5 : Ref sig .tc := ⟨.hbm, 24, rfl⟩
abbrev main_call0_call0_v6 : Ref sig .tc := ⟨.hbm, 25, rfl⟩
abbrev main_call0_call0_v7 : Ref sig .tc := ⟨.hbm, 26, rfl⟩
abbrev main_call0_call0_v8 : Ref sig .tc := ⟨.hbm, 27, rfl⟩
abbrev main_call0_call0_c : Ref sig .tc := ⟨.hbm, 28, rfl⟩
abbrev main_call0_call0_v9 : Ref sig .tc := ⟨.hbm, 29, rfl⟩
abbrev main_call0_call0_v10 : Ref sig .tc := ⟨.hbm, 30, rfl⟩
abbrev main_call0_call0_c_0 : Ref sig .tc := ⟨.hbm, 31, rfl⟩
abbrev main_call0_call0_v11 : Ref sig .tc := ⟨.hbm, 32, rfl⟩
abbrev main_call0_call0_v12 : Ref sig .tc := ⟨.hbm, 33, rfl⟩
abbrev main_call0_call0_v13 : Ref sig .tc := ⟨.hbm, 34, rfl⟩
abbrev main_call0_call0_c_1 : Ref sig .tc := ⟨.hbm, 35, rfl⟩
abbrev main_call0_call0_v14 : Ref sig .tc := ⟨.hbm, 36, rfl⟩
abbrev main_call0_call0_v15 : Ref sig .tc := ⟨.hbm, 37, rfl⟩
abbrev main_call0_call0_v16 : Ref sig .tc := ⟨.hbm, 38, rfl⟩
abbrev main_call0_call0_v17 : Ref sig .tc := ⟨.hbm, 39, rfl⟩
abbrev main_call0_call0_call0_v0 : Ref sig .tc := ⟨.hbm, 40, rfl⟩
abbrev main_call0_call0_call0_c : Ref sig .tc := ⟨.hbm, 41, rfl⟩
abbrev main_call0_call0_call0_v1 : Ref sig .tc := ⟨.hbm, 42, rfl⟩
abbrev main_call0_call0_call0_v2 : Ref sig .tc := ⟨.hbm, 43, rfl⟩
abbrev main_call0_call0_call0_v3 : Ref sig .tc := ⟨.hbm, 44, rfl⟩
abbrev main_call0_call0_call0_v4 : Ref sig .tc := ⟨.hbm, 45, rfl⟩
abbrev main_call0_call0_call0_v5 : Ref sig .tc := ⟨.hbm, 46, rfl⟩
abbrev main_call0_call0_call0_v6 : Ref sig .tc := ⟨.hbm, 47, rfl⟩
abbrev main_call0_call0_call0_c_0 : Ref sig .tc := ⟨.hbm, 48, rfl⟩
abbrev main_call0_call0_call0_v7 : Ref sig .tc := ⟨.hbm, 49, rfl⟩
abbrev main_call0_call0_call0_v8 : Ref sig .tc := ⟨.hbm, 50, rfl⟩
abbrev main_call0_call0_call0_c_1 : Ref sig .tc := ⟨.hbm, 51, rfl⟩
abbrev main_call0_call0_call0_v9 : Ref sig .tc := ⟨.hbm, 52, rfl⟩
abbrev main_call0_call0_call0_v10 : Ref sig .tc := ⟨.hbm, 53, rfl⟩
abbrev main_call0_call0_call0_v11 : Ref sig .tc := ⟨.hbm, 54, rfl⟩
abbrev main_call0_call0_call0_v12 : Ref sig .tc := ⟨.hbm, 55, rfl⟩
abbrev main_call0_call0_call0_v13 : Ref sig .tc := ⟨.hbm, 56, rfl⟩
abbrev main_call0_call0_call0_c_2 : Ref sig .tc := ⟨.hbm, 57, rfl⟩
abbrev main_call0_call0_call0_v14 : Ref sig .tc := ⟨.hbm, 58, rfl⟩
abbrev main_call0_call0_call0_v15 : Ref sig .tc := ⟨.hbm, 59, rfl⟩
abbrev main_call0_call0_call0_c_3 : Ref sig .tc := ⟨.hbm, 60, rfl⟩
abbrev main_call0_call0_call0_v16 : Ref sig .tc := ⟨.hbm, 61, rfl⟩
abbrev main_call0_call0_call0_v17 : Ref sig .tc := ⟨.hbm, 62, rfl⟩
abbrev main_call0_call0_call0_v18 : Ref sig .tc := ⟨.hbm, 63, rfl⟩
abbrev main_call0_call0_call0_v19 : Ref sig .tc := ⟨.hbm, 64, rfl⟩
abbrev main_call0_call0_call0_v20 : Ref sig .tc := ⟨.hbm, 65, rfl⟩
abbrev main_call0_call0_call0_c_4 : Ref sig .tc := ⟨.hbm, 66, rfl⟩
abbrev main_call0_call0_call0_v21 : Ref sig .tc := ⟨.hbm, 67, rfl⟩
abbrev main_call0_call0_call0_v22 : Ref sig .tc := ⟨.hbm, 68, rfl⟩
abbrev main_call0_call0_call0_c_5 : Ref sig .tc := ⟨.hbm, 69, rfl⟩
abbrev main_call0_call0_call0_v23 : Ref sig .tc := ⟨.hbm, 70, rfl⟩
abbrev main_call0_call0_call0_v24 : Ref sig .tc := ⟨.hbm, 71, rfl⟩
abbrev main_call0_call0_call0_v25 : Ref sig .tc := ⟨.hbm, 72, rfl⟩
abbrev main_call0_call0_call0_v26 : Ref sig .tc := ⟨.hbm, 73, rfl⟩
abbrev main_call0_call0_call0_v27 : Ref sig .tc := ⟨.hbm, 74, rfl⟩
abbrev main_call0_call0_call0_c_6 : Ref sig .tc := ⟨.hbm, 75, rfl⟩
abbrev main_call0_call0_call0_v28 : Ref sig .tc := ⟨.hbm, 76, rfl⟩
abbrev main_call0_call0_call0_v29 : Ref sig .tc := ⟨.hbm, 77, rfl⟩
abbrev main_call0_call0_call0_c_7 : Ref sig .tc := ⟨.hbm, 78, rfl⟩
abbrev main_call0_call0_call0_v30 : Ref sig .tc := ⟨.hbm, 79, rfl⟩
abbrev main_call0_call0_call0_v31 : Ref sig .tc := ⟨.hbm, 80, rfl⟩
abbrev main_call0_call0_call0_v32 : Ref sig .tc := ⟨.hbm, 81, rfl⟩
abbrev main_call0_call0_call0_v33 : Ref sig .tc := ⟨.hbm, 82, rfl⟩
abbrev main_call0_call0_call0_v34 : Ref sig .tc := ⟨.hbm, 83, rfl⟩
abbrev main_call0_call0_call0_v35 : Ref sig .tc := ⟨.hbm, 84, rfl⟩
abbrev main_call0_call0_call0_v36 : Ref sig .tc := ⟨.hbm, 85, rfl⟩
abbrev main_call0_call0_call0_v37 : Ref sig .tc := ⟨.hbm, 86, rfl⟩
abbrev main_call0_call0_call0_c_8 : Ref sig .tc := ⟨.hbm, 87, rfl⟩
abbrev main_call0_call0_call0_v38 : Ref sig .tc := ⟨.hbm, 88, rfl⟩
abbrev main_call0_call0_call0_v39 : Ref sig .tc := ⟨.hbm, 89, rfl⟩
abbrev main_call0_call0_call0_v40 : Ref sig .tc := ⟨.hbm, 90, rfl⟩
abbrev main_call0_call0_call0_c_9 : Ref sig .tc := ⟨.hbm, 91, rfl⟩
abbrev main_call0_call0_call0_v41 : Ref sig .tc := ⟨.hbm, 92, rfl⟩
abbrev main_call0_call0_call0_v42 : Ref sig .tc := ⟨.hbm, 93, rfl⟩
abbrev main_call0_call0_call0_c_10 : Ref sig .tc := ⟨.hbm, 94, rfl⟩
abbrev main_call0_call0_call0_v43 : Ref sig .tc := ⟨.hbm, 95, rfl⟩
abbrev main_call0_call0_call0_v44 : Ref sig .tc := ⟨.hbm, 96, rfl⟩
abbrev main_call0_call0_call0_v45 : Ref sig .tc := ⟨.hbm, 97, rfl⟩
abbrev main_call0_call0_call0_v46 : Ref sig .tc := ⟨.hbm, 98, rfl⟩
abbrev main_call0_call0_call0_v47 : Ref sig .tc := ⟨.hbm, 99, rfl⟩
abbrev main_call0_call0_call0_c_11 : Ref sig .tc := ⟨.hbm, 100, rfl⟩
abbrev main_call0_call0_call0_v48 : Ref sig .tc := ⟨.hbm, 101, rfl⟩
abbrev main_call0_call0_call0_v49 : Ref sig .tc := ⟨.hbm, 102, rfl⟩
abbrev main_call0_call0_call0_c_12 : Ref sig .tc := ⟨.hbm, 103, rfl⟩
abbrev main_call0_call0_call0_v50 : Ref sig .tc := ⟨.hbm, 104, rfl⟩
abbrev main_call0_call0_call0_v51 : Ref sig .tc := ⟨.hbm, 105, rfl⟩
abbrev main_call0_call0_call0_v52 : Ref sig .tc := ⟨.hbm, 106, rfl⟩
abbrev main_call0_call0_call0_v53 : Ref sig .tc := ⟨.hbm, 107, rfl⟩
abbrev main_call0_call0_call0_v54 : Ref sig .tc := ⟨.hbm, 108, rfl⟩
abbrev main_call0_call0_call0_c_13 : Ref sig .tc := ⟨.hbm, 109, rfl⟩
abbrev main_call0_call0_call0_v55 : Ref sig .tc := ⟨.hbm, 110, rfl⟩
abbrev main_call0_call0_call0_v56 : Ref sig .tc := ⟨.hbm, 111, rfl⟩
abbrev main_call0_call0_call0_c_14 : Ref sig .tc := ⟨.hbm, 112, rfl⟩
abbrev main_call0_call0_call0_v57 : Ref sig .tc := ⟨.hbm, 113, rfl⟩
abbrev main_call0_call0_call0_v58 : Ref sig .tc := ⟨.hbm, 114, rfl⟩
abbrev main_call0_call0_call0_v59 : Ref sig .tc := ⟨.hbm, 115, rfl⟩
abbrev main_call0_call0_call0_v60 : Ref sig .tc := ⟨.hbm, 116, rfl⟩
abbrev main_call0_call0_call0_v61 : Ref sig .tc := ⟨.hbm, 117, rfl⟩
abbrev main_call0_call0_call0_c_15 : Ref sig .tc := ⟨.hbm, 118, rfl⟩
abbrev main_call0_call0_call0_v62 : Ref sig .tc := ⟨.hbm, 119, rfl⟩
abbrev main_call0_call0_call0_v63 : Ref sig .tc := ⟨.hbm, 120, rfl⟩
abbrev main_call0_call0_call0_c_16 : Ref sig .tc := ⟨.hbm, 121, rfl⟩
abbrev main_call0_call0_call0_v64 : Ref sig .tc := ⟨.hbm, 122, rfl⟩
abbrev main_call0_call0_call0_v65 : Ref sig .tc := ⟨.hbm, 123, rfl⟩
abbrev main_call0_call0_call0_v66 : Ref sig .tc := ⟨.hbm, 124, rfl⟩
abbrev main_call0_call0_call0_v67 : Ref sig .tc := ⟨.hbm, 125, rfl⟩
abbrev main_call0_call0_call0_v68 : Ref sig .tc := ⟨.hbm, 126, rfl⟩
abbrev main_call0_call0_call0_v69 : Ref sig .tc := ⟨.hbm, 127, rfl⟩
abbrev main_call0_call0_call0_v70 : Ref sig .tc := ⟨.hbm, 128, rfl⟩
abbrev main_call0_call0_call0_v71 : Ref sig .tc := ⟨.hbm, 129, rfl⟩
abbrev main_call0_call0_call0_c_17 : Ref sig .tc := ⟨.hbm, 130, rfl⟩
abbrev main_call0_call0_call0_v72 : Ref sig .tc := ⟨.hbm, 131, rfl⟩
abbrev main_call0_call0_call0_v73 : Ref sig .tc := ⟨.hbm, 132, rfl⟩
abbrev main_call0_call0_call0_v74 : Ref sig .tc := ⟨.hbm, 133, rfl⟩
abbrev main_call0_call0_call0_c_18 : Ref sig .tc := ⟨.hbm, 134, rfl⟩
abbrev main_call0_call0_call0_v75 : Ref sig .tc := ⟨.hbm, 135, rfl⟩
abbrev main_call0_call0_call0_v76 : Ref sig .tc := ⟨.hbm, 136, rfl⟩
abbrev main_call0_call0_call0_c_19 : Ref sig .tc := ⟨.hbm, 137, rfl⟩
abbrev main_call0_call0_call0_v77 : Ref sig .tc := ⟨.hbm, 138, rfl⟩
abbrev main_call0_call0_call0_v78 : Ref sig .tc := ⟨.hbm, 139, rfl⟩
abbrev main_call0_call0_call0_v79 : Ref sig .tc := ⟨.hbm, 140, rfl⟩
abbrev main_call0_call0_call0_v80 : Ref sig .tc := ⟨.hbm, 141, rfl⟩
abbrev main_call0_call0_call0_v81 : Ref sig .tc := ⟨.hbm, 142, rfl⟩
abbrev main_call0_call0_call0_c_20 : Ref sig .tc := ⟨.hbm, 143, rfl⟩
abbrev main_call0_call0_call0_v82 : Ref sig .tc := ⟨.hbm, 144, rfl⟩
abbrev main_call0_call0_call0_v83 : Ref sig .tc := ⟨.hbm, 145, rfl⟩
abbrev main_call0_call0_call0_c_21 : Ref sig .tc := ⟨.hbm, 146, rfl⟩
abbrev main_call0_call0_call0_v84 : Ref sig .tc := ⟨.hbm, 147, rfl⟩
abbrev main_call0_call0_call0_v85 : Ref sig .tc := ⟨.hbm, 148, rfl⟩
abbrev main_call0_call0_call0_v86 : Ref sig .tc := ⟨.hbm, 149, rfl⟩
abbrev main_call0_call0_call0_v87 : Ref sig .tc := ⟨.hbm, 150, rfl⟩
abbrev main_call0_call0_call0_v88 : Ref sig .tc := ⟨.hbm, 151, rfl⟩
abbrev main_call0_call0_call0_c_22 : Ref sig .tc := ⟨.hbm, 152, rfl⟩
abbrev main_call0_call0_call0_v89 : Ref sig .tc := ⟨.hbm, 153, rfl⟩
abbrev main_call0_call0_call0_v90 : Ref sig .tc := ⟨.hbm, 154, rfl⟩
abbrev main_call0_call0_call0_c_23 : Ref sig .tc := ⟨.hbm, 155, rfl⟩
abbrev main_call0_call0_call0_v91 : Ref sig .tc := ⟨.hbm, 156, rfl⟩
abbrev main_call0_call0_call0_v92 : Ref sig .tc := ⟨.hbm, 157, rfl⟩
abbrev main_call0_call0_call0_v93 : Ref sig .tc := ⟨.hbm, 158, rfl⟩
abbrev main_call0_call0_call0_v94 : Ref sig .tc := ⟨.hbm, 159, rfl⟩
abbrev main_call0_call0_call0_v95 : Ref sig .tc := ⟨.hbm, 160, rfl⟩
abbrev main_call0_call0_call0_c_24 : Ref sig .tc := ⟨.hbm, 161, rfl⟩
abbrev main_call0_call0_call0_v96 : Ref sig .tc := ⟨.hbm, 162, rfl⟩
abbrev main_call0_call0_call0_v97 : Ref sig .tc := ⟨.hbm, 163, rfl⟩
abbrev main_call0_call0_call0_c_25 : Ref sig .tc := ⟨.hbm, 164, rfl⟩
abbrev main_call0_call0_call0_v98 : Ref sig .tc := ⟨.hbm, 165, rfl⟩
abbrev main_call0_call0_call0_v99 : Ref sig .tc := ⟨.hbm, 166, rfl⟩
abbrev main_call0_call0_call0_v100 : Ref sig .tc := ⟨.hbm, 167, rfl⟩
abbrev main_call0_call0_call0_v101 : Ref sig .tc := ⟨.hbm, 168, rfl⟩
abbrev main_call0_call0_call0_v102 : Ref sig .tc := ⟨.hbm, 169, rfl⟩
abbrev main_call0_call0_call0_v103 : Ref sig .tc := ⟨.hbm, 170, rfl⟩
abbrev main_call0_call0_call0_v104 : Ref sig .tc := ⟨.hbm, 171, rfl⟩
abbrev main_call0_call0_call0_v105 : Ref sig .tc := ⟨.hbm, 172, rfl⟩
abbrev main_call0_call0_call0_c_26 : Ref sig .tc := ⟨.hbm, 173, rfl⟩
abbrev main_call0_call0_call0_v106 : Ref sig .tc := ⟨.hbm, 174, rfl⟩
abbrev main_call0_call0_call0_v107 : Ref sig .tc := ⟨.hbm, 175, rfl⟩
abbrev main_call0_call0_call0_v108 : Ref sig .tc := ⟨.hbm, 176, rfl⟩
abbrev main_call0_call0_call0_c_27 : Ref sig .tc := ⟨.hbm, 177, rfl⟩
abbrev main_call0_call0_call0_v109 : Ref sig .tc := ⟨.hbm, 178, rfl⟩
abbrev main_call0_call0_call0_v110 : Ref sig .tc := ⟨.hbm, 179, rfl⟩
abbrev main_call0_call0_call0_c_28 : Ref sig .tc := ⟨.hbm, 180, rfl⟩
abbrev main_call0_call0_call0_v111 : Ref sig .tc := ⟨.hbm, 181, rfl⟩
abbrev main_call0_call0_call0_v112 : Ref sig .tc := ⟨.hbm, 182, rfl⟩
abbrev main_call0_call0_call0_v113 : Ref sig .tc := ⟨.hbm, 183, rfl⟩
abbrev main_call0_call0_call0_v114 : Ref sig .tc := ⟨.hbm, 184, rfl⟩
abbrev main_call0_call0_call0_v115 : Ref sig .tc := ⟨.hbm, 185, rfl⟩
abbrev main_call0_call0_call0_c_29 : Ref sig .tc := ⟨.hbm, 186, rfl⟩
abbrev main_call0_call0_call0_v116 : Ref sig .tc := ⟨.hbm, 187, rfl⟩
abbrev main_call0_call0_call0_v117 : Ref sig .tc := ⟨.hbm, 188, rfl⟩
abbrev main_call0_call0_call0_c_30 : Ref sig .tc := ⟨.hbm, 189, rfl⟩
abbrev main_call0_call0_call0_v118 : Ref sig .tc := ⟨.hbm, 190, rfl⟩
abbrev main_call0_call0_call0_v119 : Ref sig .tc := ⟨.hbm, 191, rfl⟩
abbrev main_call0_call0_call0_v120 : Ref sig .tc := ⟨.hbm, 192, rfl⟩
abbrev main_call0_call0_call0_v121 : Ref sig .tc := ⟨.hbm, 193, rfl⟩
abbrev main_call0_call0_call0_v122 : Ref sig .tc := ⟨.hbm, 194, rfl⟩
abbrev main_call0_call0_call0_c_31 : Ref sig .tc := ⟨.hbm, 195, rfl⟩
abbrev main_call0_call0_call0_v123 : Ref sig .tc := ⟨.hbm, 196, rfl⟩
abbrev main_call0_call0_call0_v124 : Ref sig .tc := ⟨.hbm, 197, rfl⟩
abbrev main_call0_call0_call0_c_32 : Ref sig .tc := ⟨.hbm, 198, rfl⟩
abbrev main_call0_call0_call0_v125 : Ref sig .tc := ⟨.hbm, 199, rfl⟩
abbrev main_call0_call0_call0_v126 : Ref sig .tc := ⟨.hbm, 200, rfl⟩
abbrev main_call0_call0_call0_v127 : Ref sig .tc := ⟨.hbm, 201, rfl⟩
abbrev main_call0_call0_call0_v128 : Ref sig .tc := ⟨.hbm, 202, rfl⟩
abbrev main_call0_call0_call0_v129 : Ref sig .tc := ⟨.hbm, 203, rfl⟩
abbrev main_call0_call0_call0_c_33 : Ref sig .tc := ⟨.hbm, 204, rfl⟩
abbrev main_call0_call0_call0_v130 : Ref sig .tc := ⟨.hbm, 205, rfl⟩
abbrev main_call0_call0_call0_v131 : Ref sig .tc := ⟨.hbm, 206, rfl⟩
abbrev main_call0_call0_call0_c_34 : Ref sig .tc := ⟨.hbm, 207, rfl⟩
abbrev main_call0_call0_call0_v132 : Ref sig .tc := ⟨.hbm, 208, rfl⟩
abbrev main_call0_call0_call0_v133 : Ref sig .tc := ⟨.hbm, 209, rfl⟩
abbrev main_call0_call0_call0_v134 : Ref sig .tc := ⟨.hbm, 210, rfl⟩
abbrev main_call0_call0_call0_v135 : Ref sig .tc := ⟨.hbm, 211, rfl⟩
abbrev main_call0_call0_call0_v136 : Ref sig .tc := ⟨.hbm, 212, rfl⟩
abbrev main_call0_call0_call0_v137 : Ref sig .tc := ⟨.hbm, 213, rfl⟩
abbrev main_call0_call0_call0_v138 : Ref sig .tc := ⟨.hbm, 214, rfl⟩
abbrev main_call0_call0_call0_v139 : Ref sig .tc := ⟨.hbm, 215, rfl⟩
abbrev main_call0_call0_call0_c_35 : Ref sig .tc := ⟨.hbm, 216, rfl⟩
abbrev main_call0_call0_call0_v140 : Ref sig .tc := ⟨.hbm, 217, rfl⟩
abbrev main_call0_call0_call0_v141 : Ref sig .tc := ⟨.hbm, 218, rfl⟩
abbrev main_call0_call0_call0_v142 : Ref sig .tc := ⟨.hbm, 219, rfl⟩
abbrev main_call0_call0_call0_c_36 : Ref sig .tc := ⟨.hbm, 220, rfl⟩
abbrev main_call0_call0_call0_v143 : Ref sig .tc := ⟨.hbm, 221, rfl⟩
abbrev main_call0_call0_call0_v144 : Ref sig .tc := ⟨.hbm, 222, rfl⟩
abbrev main_call0_call0_call0_c_37 : Ref sig .tc := ⟨.hbm, 223, rfl⟩
abbrev main_call0_call0_call0_v145 : Ref sig .tc := ⟨.hbm, 224, rfl⟩
abbrev main_call0_call0_call0_v146 : Ref sig .tc := ⟨.hbm, 225, rfl⟩
abbrev main_call0_call0_call0_v147 : Ref sig .tc := ⟨.hbm, 226, rfl⟩
abbrev main_call0_call0_call0_v148 : Ref sig .tc := ⟨.hbm, 227, rfl⟩
abbrev main_call0_call0_call0_v149 : Ref sig .tc := ⟨.hbm, 228, rfl⟩
abbrev main_call0_call0_call0_c_38 : Ref sig .tc := ⟨.hbm, 229, rfl⟩
abbrev main_call0_call0_call0_v150 : Ref sig .tc := ⟨.hbm, 230, rfl⟩
abbrev main_call0_call0_call0_v151 : Ref sig .tc := ⟨.hbm, 231, rfl⟩
abbrev main_call0_call0_call0_c_39 : Ref sig .tc := ⟨.hbm, 232, rfl⟩
abbrev main_call0_call0_call0_v152 : Ref sig .tc := ⟨.hbm, 233, rfl⟩
abbrev main_call0_call0_call0_v153 : Ref sig .tc := ⟨.hbm, 234, rfl⟩
abbrev main_call0_call0_call0_v154 : Ref sig .tc := ⟨.hbm, 235, rfl⟩
abbrev main_call0_call0_call0_v155 : Ref sig .tc := ⟨.hbm, 236, rfl⟩
abbrev main_call0_call0_call0_v156 : Ref sig .tc := ⟨.hbm, 237, rfl⟩
abbrev main_call0_call0_call0_c_40 : Ref sig .tc := ⟨.hbm, 238, rfl⟩
abbrev main_call0_call0_call0_v157 : Ref sig .tc := ⟨.hbm, 239, rfl⟩
abbrev main_call0_call0_call0_v158 : Ref sig .tc := ⟨.hbm, 240, rfl⟩
abbrev main_call0_call0_call0_c_41 : Ref sig .tc := ⟨.hbm, 241, rfl⟩
abbrev main_call0_call0_call0_v159 : Ref sig .tc := ⟨.hbm, 242, rfl⟩
abbrev main_call0_call0_call0_v160 : Ref sig .tc := ⟨.hbm, 243, rfl⟩
abbrev main_call0_call0_call0_v161 : Ref sig .tc := ⟨.hbm, 244, rfl⟩
abbrev main_call0_call0_call0_v162 : Ref sig .tc := ⟨.hbm, 245, rfl⟩
abbrev main_call0_call0_call0_v163 : Ref sig .tc := ⟨.hbm, 246, rfl⟩
abbrev main_call0_call0_call0_c_42 : Ref sig .tc := ⟨.hbm, 247, rfl⟩
abbrev main_call0_call0_call0_v164 : Ref sig .tc := ⟨.hbm, 248, rfl⟩
abbrev main_call0_call0_call0_v165 : Ref sig .tc := ⟨.hbm, 249, rfl⟩
abbrev main_call0_call0_call0_c_43 : Ref sig .tc := ⟨.hbm, 250, rfl⟩
abbrev main_call0_call0_call0_v166 : Ref sig .tc := ⟨.hbm, 251, rfl⟩
abbrev main_call0_call0_call0_v167 : Ref sig .tc := ⟨.hbm, 252, rfl⟩
abbrev main_call0_call0_call0_v168 : Ref sig .tc := ⟨.hbm, 253, rfl⟩
abbrev main_call0_call0_call0_v169 : Ref sig .tc := ⟨.hbm, 254, rfl⟩
abbrev main_call0_call0_call0_v170 : Ref sig .tc := ⟨.hbm, 255, rfl⟩
abbrev main_call0_call0_v18_0 : Ref sig .tc := ⟨.hbm, 256, rfl⟩
abbrev main_call0_call0_call0_v172 : Ref sig .tc := ⟨.hbm, 257, rfl⟩
abbrev main_call0_call0_call0_v173 : Ref sig .tc := ⟨.hbm, 258, rfl⟩
abbrev main_call0_call0_call0_c_44 : Ref sig .tc := ⟨.hbm, 259, rfl⟩
abbrev main_call0_call0_call0_v174 : Ref sig .tc := ⟨.hbm, 260, rfl⟩
abbrev main_call0_call0_v18_1 : Ref sig .tc := ⟨.hbm, 261, rfl⟩
abbrev main_call0_call0_v19 : Ref sig .tc := ⟨.hbm, 262, rfl⟩
abbrev main_call0_call0_c_2 : Ref sig .tc := ⟨.hbm, 263, rfl⟩
abbrev main_call0_call0_v20 : Ref sig .tc := ⟨.hbm, 264, rfl⟩
abbrev main_call0_call0_v21 : Ref sig .tc := ⟨.hbm, 265, rfl⟩
abbrev main_call0_call0_c_3 : Ref sig .tc := ⟨.hbm, 266, rfl⟩
abbrev main_call0_call0_v22 : Ref sig .tc := ⟨.hbm, 267, rfl⟩
abbrev main_call0_call0_v23 : Ref sig .tc := ⟨.hbm, 268, rfl⟩
abbrev main_call0_call0_v24 : Ref sig .tc := ⟨.hbm, 269, rfl⟩
abbrev main_call0_call0_cst : Ref sig .tc := ⟨.hbm, 270, rfl⟩
abbrev main_call0_call0_v25 : Ref sig .tc := ⟨.hbm, 271, rfl⟩
abbrev main_call0_call0_v26 : Ref sig .tc := ⟨.hbm, 272, rfl⟩
abbrev main_call0_call0_v27 : Ref sig .tc := ⟨.hbm, 273, rfl⟩
abbrev main_call0_call0_v28 : Ref sig .tc := ⟨.hbm, 274, rfl⟩
abbrev main_call0_call0_v29 : Ref sig .tc := ⟨.hbm, 275, rfl⟩
abbrev main_call0_call0_v30 : Ref sig .tc := ⟨.hbm, 276, rfl⟩
abbrev main_call0_call0_v31 : Ref sig .tc := ⟨.hbm, 277, rfl⟩
abbrev main_call0_call0_v32 : Ref sig .tc := ⟨.hbm, 278, rfl⟩
abbrev main_call0_v0 : Ref sig .tc := ⟨.hbm, 279, rfl⟩
abbrev main_call0_v1 : Ref sig .tc := ⟨.hbm, 280, rfl⟩
abbrev main_call0_v2 : Ref sig .tc := ⟨.hbm, 281, rfl⟩
abbrev main_call0_v3 : Ref sig .tc := ⟨.hbm, 282, rfl⟩
abbrev main_v10 : Ref sig .tc := ⟨.hbm, 283, rfl⟩
abbrev main_v11 : Ref sig .tc := ⟨.hbm, 284, rfl⟩
abbrev main_call1_v0 : Ref sig .tc := ⟨.hbm, 285, rfl⟩
abbrev main_call1_cst : Ref sig .tc := ⟨.hbm, 286, rfl⟩
abbrev main_call1_c : Ref sig .tc := ⟨.hbm, 287, rfl⟩
abbrev main_call1_v1_0 : Ref sig .tc := ⟨.hbm, 288, rfl⟩
abbrev main_v12 : Ref sig .tc := ⟨.hbm, 289, rfl⟩
abbrev main_v13 : Ref sig .tc := ⟨.hbm, 290, rfl⟩
abbrev main_v14 : Ref sig .tc := ⟨.hbm, 291, rfl⟩
abbrev main_v15 : Ref sig .tc := ⟨.hbm, 292, rfl⟩
abbrev main_v16 : Ref sig .tc := ⟨.hbm, 293, rfl⟩
abbrev main_v17 : Ref sig .tc := ⟨.hbm, 294, rfl⟩
abbrev main_v18 : Ref sig .tc := ⟨.hbm, 295, rfl⟩
abbrev main_v19 : Ref sig .tc := ⟨.hbm, 296, rfl⟩
abbrev main_v20 : Ref sig .tc := ⟨.hbm, 297, rfl⟩
abbrev main_v21 : Ref sig .tc := ⟨.hbm, 298, rfl⟩
abbrev main_v22 : Ref sig .tc := ⟨.hbm, 299, rfl⟩
abbrev main_v23 : Ref sig .tc := ⟨.hbm, 300, rfl⟩
abbrev main_v24 : Ref sig .tc := ⟨.hbm, 301, rfl⟩
abbrev main_v25 : Ref sig .tc := ⟨.hbm, 302, rfl⟩
abbrev main_v26 : Ref sig .tc := ⟨.hbm, 303, rfl⟩
abbrev main_v27 : Ref sig .tc := ⟨.hbm, 304, rfl⟩
abbrev main_v28 : Ref sig .tc := ⟨.hbm, 305, rfl⟩
abbrev main_v29 : Ref sig .tc := ⟨.hbm, 306, rfl⟩
abbrev main_v30 : Ref sig .tc := ⟨.hbm, 307, rfl⟩
abbrev main_v31 : Ref sig .tc := ⟨.hbm, 308, rfl⟩
abbrev main_v32 : Ref sig .tc := ⟨.hbm, 309, rfl⟩
abbrev main_v33 : Ref sig .tc := ⟨.hbm, 310, rfl⟩
abbrev main_v34 : Ref sig .tc := ⟨.hbm, 311, rfl⟩
abbrev main_v35 : Ref sig .tc := ⟨.hbm, 312, rfl⟩
abbrev main_v36 : Ref sig .tc := ⟨.hbm, 313, rfl⟩
abbrev main_v37 : Ref sig .tc := ⟨.hbm, 314, rfl⟩
abbrev main_v38 : Ref sig .tc := ⟨.hbm, 315, rfl⟩
abbrev main_v39 : Ref sig .tc := ⟨.hbm, 316, rfl⟩
abbrev main_v40 : Ref sig .tc := ⟨.hbm, 317, rfl⟩
abbrev main_v41 : Ref sig .tc := ⟨.hbm, 318, rfl⟩
abbrev main_v42 : Ref sig .tc := ⟨.hbm, 319, rfl⟩
abbrev main_v43 : Ref sig .tc := ⟨.hbm, 320, rfl⟩
abbrev main_v44 : Ref sig .tc := ⟨.hbm, 321, rfl⟩
abbrev main_v45 : Ref sig .tc := ⟨.hbm, 322, rfl⟩
abbrev main_v46 : Ref sig .tc := ⟨.hbm, 323, rfl⟩
abbrev main_v47 : Ref sig .tc := ⟨.hbm, 324, rfl⟩
abbrev main_v48 : Ref sig .tc := ⟨.hbm, 325, rfl⟩
abbrev main_v49 : Ref sig .tc := ⟨.hbm, 326, rfl⟩
abbrev main_v50 : Ref sig .tc := ⟨.hbm, 327, rfl⟩
abbrev main_v51 : Ref sig .tc := ⟨.hbm, 328, rfl⟩
abbrev main_v52 : Ref sig .tc := ⟨.hbm, 329, rfl⟩
abbrev main_v53 : Ref sig .tc := ⟨.hbm, 330, rfl⟩
abbrev main_v54 : Ref sig .tc := ⟨.hbm, 331, rfl⟩
abbrev main_v55 : Ref sig .tc := ⟨.hbm, 332, rfl⟩
abbrev main_v56 : Ref sig .tc := ⟨.hbm, 333, rfl⟩
abbrev main_v57 : Ref sig .tc := ⟨.hbm, 334, rfl⟩
abbrev main_v58 : Ref sig .tc := ⟨.hbm, 335, rfl⟩
abbrev main_v59 : Ref sig .tc := ⟨.hbm, 336, rfl⟩
abbrev main_v60 : Ref sig .tc := ⟨.hbm, 337, rfl⟩
abbrev main_v61 : Ref sig .tc := ⟨.hbm, 338, rfl⟩
abbrev main_v62 : Ref sig .tc := ⟨.hbm, 339, rfl⟩
abbrev main_v63 : Ref sig .tc := ⟨.hbm, 340, rfl⟩
abbrev main_v64 : Ref sig .tc := ⟨.hbm, 341, rfl⟩
abbrev main_v65 : Ref sig .tc := ⟨.hbm, 342, rfl⟩
abbrev main_v66 : Ref sig .tc := ⟨.hbm, 343, rfl⟩
abbrev main_v67 : Ref sig .tc := ⟨.hbm, 344, rfl⟩
abbrev main_v68 : Ref sig .tc := ⟨.hbm, 345, rfl⟩
abbrev main_v69 : Ref sig .tc := ⟨.hbm, 346, rfl⟩
abbrev main_v70 : Ref sig .tc := ⟨.hbm, 347, rfl⟩
abbrev main_v71 : Ref sig .tc := ⟨.hbm, 348, rfl⟩
abbrev main_v72 : Ref sig .tc := ⟨.hbm, 349, rfl⟩
abbrev main_v73 : Ref sig .tc := ⟨.hbm, 350, rfl⟩
abbrev main_v74 : Ref sig .tc := ⟨.hbm, 351, rfl⟩
abbrev main_v75 : Ref sig .tc := ⟨.hbm, 352, rfl⟩
abbrev main_v76 : Ref sig .tc := ⟨.hbm, 353, rfl⟩
abbrev main_v77 : Ref sig .tc := ⟨.hbm, 354, rfl⟩
abbrev main_v78 : Ref sig .tc := ⟨.hbm, 355, rfl⟩
abbrev main_c_2 : Ref sig .tc := ⟨.hbm, 356, rfl⟩
abbrev main_c_3 : Ref sig .tc := ⟨.hbm, 357, rfl⟩
abbrev main_v79 : Ref sig .tc := ⟨.hbm, 358, rfl⟩
abbrev main_v80 : Ref sig .tc := ⟨.hbm, 359, rfl⟩
abbrev main_case0b1_v285 : Ref sig .tc := ⟨.hbm, 360, rfl⟩
abbrev main_case0b1_v286 : Ref sig .tc := ⟨.hbm, 361, rfl⟩
abbrev main_case0b2_cst_10 : Ref sig .tc := ⟨.hbm, 362, rfl⟩
abbrev main_case0b2_v285 : Ref sig .tc := ⟨.hbm, 363, rfl⟩
abbrev main_case0b2_v286 : Ref sig .tc := ⟨.hbm, 364, rfl⟩
abbrev main_case0b2_v287 : Ref sig .tc := ⟨.hbm, 365, rfl⟩
abbrev main_case0b3_v285 : Ref sig .tc := ⟨.hbm, 366, rfl⟩
abbrev main_case0b3_v286 : Ref sig .tc := ⟨.hbm, 367, rfl⟩
abbrev main_case0b4_v285 : Ref sig .tc := ⟨.hbm, 368, rfl⟩
abbrev main_case0b4_v286 : Ref sig .tc := ⟨.hbm, 369, rfl⟩
abbrev main_case0b4_v287 : Ref sig .tc := ⟨.hbm, 370, rfl⟩
abbrev main_case0b4_v288 : Ref sig .tc := ⟨.hbm, 371, rfl⟩
abbrev main_case0b5_v285 : Ref sig .tc := ⟨.hbm, 372, rfl⟩
abbrev main_case0b5_v286 : Ref sig .tc := ⟨.hbm, 373, rfl⟩
abbrev main_case0b5_v287 : Ref sig .tc := ⟨.hbm, 374, rfl⟩
abbrev main_case0b5_v288 : Ref sig .tc := ⟨.hbm, 375, rfl⟩
abbrev main_case0b6_v285 : Ref sig .tc := ⟨.hbm, 376, rfl⟩
abbrev main_case0b6_cst_10 : Ref sig .tc := ⟨.hbm, 377, rfl⟩
abbrev main_case0b6_v286 : Ref sig .tc := ⟨.hbm, 378, rfl⟩
abbrev main_case0b6_v287 : Ref sig .tc := ⟨.hbm, 379, rfl⟩
abbrev main_case0b6_v288 : Ref sig .tc := ⟨.hbm, 380, rfl⟩
abbrev main_case0b7_v285 : Ref sig .tc := ⟨.hbm, 381, rfl⟩
abbrev main_case0b7_cst_10 : Ref sig .tc := ⟨.hbm, 382, rfl⟩
abbrev main_case0b7_v286 : Ref sig .tc := ⟨.hbm, 383, rfl⟩
abbrev main_case0b7_v287 : Ref sig .tc := ⟨.hbm, 384, rfl⟩
abbrev main_case0b7_v288 : Ref sig .tc := ⟨.hbm, 385, rfl⟩
abbrev main_case0b9_v285 : Ref sig .tc := ⟨.hbm, 386, rfl⟩
abbrev main_case0b9_v286 : Ref sig .tc := ⟨.hbm, 387, rfl⟩
abbrev main_case0b10_cst_10 : Ref sig .tc := ⟨.hbm, 388, rfl⟩
abbrev main_case0b10_v285 : Ref sig .tc := ⟨.hbm, 389, rfl⟩
abbrev main_case0b10_v286 : Ref sig .tc := ⟨.hbm, 390, rfl⟩
abbrev main_case0b10_v287 : Ref sig .tc := ⟨.hbm, 391, rfl⟩
abbrev main_case0b11_v285 : Ref sig .tc := ⟨.hbm, 392, rfl⟩
abbrev main_case0b11_v286 : Ref sig .tc := ⟨.hbm, 393, rfl⟩
abbrev main_case0b12_v285 : Ref sig .tc := ⟨.hbm, 394, rfl⟩
abbrev main_case0b12_v286 : Ref sig .tc := ⟨.hbm, 395, rfl⟩
abbrev main_case0b12_v287 : Ref sig .tc := ⟨.hbm, 396, rfl⟩
abbrev main_case0b12_v288 : Ref sig .tc := ⟨.hbm, 397, rfl⟩
abbrev main_case0b13_v285 : Ref sig .tc := ⟨.hbm, 398, rfl⟩
abbrev main_case0b13_v286 : Ref sig .tc := ⟨.hbm, 399, rfl⟩
abbrev main_case0b13_v287 : Ref sig .tc := ⟨.hbm, 400, rfl⟩
abbrev main_case0b13_v288 : Ref sig .tc := ⟨.hbm, 401, rfl⟩
abbrev main_case0b14_v285 : Ref sig .tc := ⟨.hbm, 402, rfl⟩
abbrev main_case0b14_cst_10 : Ref sig .tc := ⟨.hbm, 403, rfl⟩
abbrev main_case0b14_v286 : Ref sig .tc := ⟨.hbm, 404, rfl⟩
abbrev main_case0b14_v287 : Ref sig .tc := ⟨.hbm, 405, rfl⟩
abbrev main_case0b14_v288 : Ref sig .tc := ⟨.hbm, 406, rfl⟩
abbrev main_case0b15_v285 : Ref sig .tc := ⟨.hbm, 407, rfl⟩
abbrev main_case0b15_cst_10 : Ref sig .tc := ⟨.hbm, 408, rfl⟩
abbrev main_case0b15_v286 : Ref sig .tc := ⟨.hbm, 409, rfl⟩
abbrev main_case0b15_v287 : Ref sig .tc := ⟨.hbm, 410, rfl⟩
abbrev main_case0b15_v288 : Ref sig .tc := ⟨.hbm, 411, rfl⟩
abbrev main_v81 : Ref sig .tc := ⟨.hbm, 412, rfl⟩
abbrev main_v82 : Ref sig .tc := ⟨.hbm, 413, rfl⟩
abbrev main_v83 : Ref sig .tc := ⟨.hbm, 414, rfl⟩
abbrev main_v84 : Ref sig .tc := ⟨.hbm, 415, rfl⟩
abbrev main_v85 : Ref sig .tc := ⟨.hbm, 416, rfl⟩
abbrev main_v86 : Ref sig .tc := ⟨.hbm, 417, rfl⟩
abbrev main_v87 : Ref sig .tc := ⟨.hbm, 418, rfl⟩
abbrev main_v88 : Ref sig .tc := ⟨.hbm, 419, rfl⟩
abbrev main_v89 : Ref sig .tc := ⟨.hbm, 420, rfl⟩
abbrev main_v90 : Ref sig .tc := ⟨.hbm, 421, rfl⟩
abbrev main_v91 : Ref sig .tc := ⟨.hbm, 422, rfl⟩
abbrev main_v92 : Ref sig .tc := ⟨.hbm, 423, rfl⟩
abbrev main_v93 : Ref sig .tc := ⟨.hbm, 424, rfl⟩
abbrev main_v94 : Ref sig .tc := ⟨.hbm, 425, rfl⟩
abbrev main_v95 : Ref sig .tc := ⟨.hbm, 426, rfl⟩
abbrev main_v96 : Ref sig .tc := ⟨.hbm, 427, rfl⟩
abbrev main_v97 : Ref sig .tc := ⟨.hbm, 428, rfl⟩
abbrev main_v98 : Ref sig .tc := ⟨.hbm, 429, rfl⟩
abbrev main_v99 : Ref sig .tc := ⟨.hbm, 430, rfl⟩
abbrev main_v100 : Ref sig .tc := ⟨.hbm, 431, rfl⟩
abbrev main_v101 : Ref sig .tc := ⟨.hbm, 432, rfl⟩
abbrev main_v102 : Ref sig .tc := ⟨.hbm, 433, rfl⟩
abbrev main_v103 : Ref sig .tc := ⟨.hbm, 434, rfl⟩
abbrev main_v104 : Ref sig .tc := ⟨.hbm, 435, rfl⟩
abbrev main_v105 : Ref sig .tc := ⟨.hbm, 436, rfl⟩
abbrev main_v106 : Ref sig .tc := ⟨.hbm, 437, rfl⟩
abbrev main_v107 : Ref sig .tc := ⟨.hbm, 438, rfl⟩
abbrev main_v108 : Ref sig .tc := ⟨.hbm, 439, rfl⟩
abbrev main_v109 : Ref sig .tc := ⟨.hbm, 440, rfl⟩
abbrev main_v110 : Ref sig .tc := ⟨.hbm, 441, rfl⟩
abbrev main_v111 : Ref sig .tc := ⟨.hbm, 442, rfl⟩
abbrev main_v112 : Ref sig .tc := ⟨.hbm, 443, rfl⟩
abbrev main_v113 : Ref sig .tc := ⟨.hbm, 444, rfl⟩
abbrev main_v114 : Ref sig .tc := ⟨.hbm, 445, rfl⟩
abbrev main_v115 : Ref sig .tc := ⟨.hbm, 446, rfl⟩
abbrev main_v116 : Ref sig .tc := ⟨.hbm, 447, rfl⟩
abbrev main_v117 : Ref sig .tc := ⟨.hbm, 448, rfl⟩
abbrev main_v118 : Ref sig .tc := ⟨.hbm, 449, rfl⟩
abbrev main_v119 : Ref sig .tc := ⟨.hbm, 450, rfl⟩
abbrev main_v120 : Ref sig .tc := ⟨.hbm, 451, rfl⟩
abbrev main_v121 : Ref sig .tc := ⟨.hbm, 452, rfl⟩
abbrev main_v122 : Ref sig .tc := ⟨.hbm, 453, rfl⟩
abbrev main_v123 : Ref sig .tc := ⟨.hbm, 454, rfl⟩
abbrev main_v124 : Ref sig .tc := ⟨.hbm, 455, rfl⟩
abbrev main_v125 : Ref sig .tc := ⟨.hbm, 456, rfl⟩
abbrev main_v126 : Ref sig .tc := ⟨.hbm, 457, rfl⟩
abbrev main_v127 : Ref sig .tc := ⟨.hbm, 458, rfl⟩
abbrev main_v128 : Ref sig .tc := ⟨.hbm, 459, rfl⟩
abbrev main_v129 : Ref sig .tc := ⟨.hbm, 460, rfl⟩
abbrev main_v130 : Ref sig .tc := ⟨.hbm, 461, rfl⟩
abbrev main_v131 : Ref sig .tc := ⟨.hbm, 462, rfl⟩
abbrev main_v132 : Ref sig .tc := ⟨.hbm, 463, rfl⟩
abbrev main_v133 : Ref sig .tc := ⟨.hbm, 464, rfl⟩
abbrev main_v134 : Ref sig .tc := ⟨.hbm, 465, rfl⟩
abbrev main_v135 : Ref sig .tc := ⟨.hbm, 466, rfl⟩
abbrev main_v136 : Ref sig .tc := ⟨.hbm, 467, rfl⟩
abbrev main_v137 : Ref sig .tc := ⟨.hbm, 468, rfl⟩
abbrev main_v138 : Ref sig .tc := ⟨.hbm, 469, rfl⟩
abbrev main_v139 : Ref sig .tc := ⟨.hbm, 470, rfl⟩
abbrev main_v140 : Ref sig .tc := ⟨.hbm, 471, rfl⟩
abbrev main_v141 : Ref sig .tc := ⟨.hbm, 472, rfl⟩
abbrev main_v142 : Ref sig .tc := ⟨.hbm, 473, rfl⟩
abbrev main_v143 : Ref sig .tc := ⟨.hbm, 474, rfl⟩
abbrev main_v144 : Ref sig .tc := ⟨.hbm, 475, rfl⟩
abbrev main_v145 : Ref sig .tc := ⟨.hbm, 476, rfl⟩
abbrev main_v146 : Ref sig .tc := ⟨.hbm, 477, rfl⟩
abbrev main_c_4 : Ref sig .tc := ⟨.hbm, 478, rfl⟩
abbrev main_c_5 : Ref sig .tc := ⟨.hbm, 479, rfl⟩
abbrev main_v147 : Ref sig .tc := ⟨.hbm, 480, rfl⟩
abbrev main_v148 : Ref sig .tc := ⟨.hbm, 481, rfl⟩
abbrev main_case1b1_v285 : Ref sig .tc := ⟨.hbm, 482, rfl⟩
abbrev main_case1b1_v286 : Ref sig .tc := ⟨.hbm, 483, rfl⟩
abbrev main_case1b2_cst_10 : Ref sig .tc := ⟨.hbm, 484, rfl⟩
abbrev main_case1b2_v285 : Ref sig .tc := ⟨.hbm, 485, rfl⟩
abbrev main_case1b2_v286 : Ref sig .tc := ⟨.hbm, 486, rfl⟩
abbrev main_case1b2_v287 : Ref sig .tc := ⟨.hbm, 487, rfl⟩
abbrev main_case1b3_v285 : Ref sig .tc := ⟨.hbm, 488, rfl⟩
abbrev main_case1b3_v286 : Ref sig .tc := ⟨.hbm, 489, rfl⟩
abbrev main_case1b4_v285 : Ref sig .tc := ⟨.hbm, 490, rfl⟩
abbrev main_case1b4_v286 : Ref sig .tc := ⟨.hbm, 491, rfl⟩
abbrev main_case1b4_v287 : Ref sig .tc := ⟨.hbm, 492, rfl⟩
abbrev main_case1b4_v288 : Ref sig .tc := ⟨.hbm, 493, rfl⟩
abbrev main_case1b5_v285 : Ref sig .tc := ⟨.hbm, 494, rfl⟩
abbrev main_case1b5_v286 : Ref sig .tc := ⟨.hbm, 495, rfl⟩
abbrev main_case1b5_v287 : Ref sig .tc := ⟨.hbm, 496, rfl⟩
abbrev main_case1b5_v288 : Ref sig .tc := ⟨.hbm, 497, rfl⟩
abbrev main_case1b6_v285 : Ref sig .tc := ⟨.hbm, 498, rfl⟩
abbrev main_case1b6_cst_10 : Ref sig .tc := ⟨.hbm, 499, rfl⟩
abbrev main_case1b6_v286 : Ref sig .tc := ⟨.hbm, 500, rfl⟩
abbrev main_case1b6_v287 : Ref sig .tc := ⟨.hbm, 501, rfl⟩
abbrev main_case1b6_v288 : Ref sig .tc := ⟨.hbm, 502, rfl⟩
abbrev main_case1b7_v285 : Ref sig .tc := ⟨.hbm, 503, rfl⟩
abbrev main_case1b7_cst_10 : Ref sig .tc := ⟨.hbm, 504, rfl⟩
abbrev main_case1b7_v286 : Ref sig .tc := ⟨.hbm, 505, rfl⟩
abbrev main_case1b7_v287 : Ref sig .tc := ⟨.hbm, 506, rfl⟩
abbrev main_case1b7_v288 : Ref sig .tc := ⟨.hbm, 507, rfl⟩
abbrev main_case1b9_v285 : Ref sig .tc := ⟨.hbm, 508, rfl⟩
abbrev main_case1b9_v286 : Ref sig .tc := ⟨.hbm, 509, rfl⟩
abbrev main_case1b10_cst_10 : Ref sig .tc := ⟨.hbm, 510, rfl⟩
abbrev main_case1b10_v285 : Ref sig .tc := ⟨.hbm, 511, rfl⟩
abbrev main_case1b10_v286 : Ref sig .tc := ⟨.hbm, 512, rfl⟩
abbrev main_case1b10_v287 : Ref sig .tc := ⟨.hbm, 513, rfl⟩
abbrev main_case1b11_v285 : Ref sig .tc := ⟨.hbm, 514, rfl⟩
abbrev main_case1b11_v286 : Ref sig .tc := ⟨.hbm, 515, rfl⟩
abbrev main_case1b12_v285 : Ref sig .tc := ⟨.hbm, 516, rfl⟩
abbrev main_case1b12_v286 : Ref sig .tc := ⟨.hbm, 517, rfl⟩
abbrev main_case1b12_v287 : Ref sig .tc := ⟨.hbm, 518, rfl⟩
abbrev main_case1b12_v288 : Ref sig .tc := ⟨.hbm, 519, rfl⟩
abbrev main_case1b13_v285 : Ref sig .tc := ⟨.hbm, 520, rfl⟩
abbrev main_case1b13_v286 : Ref sig .tc := ⟨.hbm, 521, rfl⟩
abbrev main_case1b13_v287 : Ref sig .tc := ⟨.hbm, 522, rfl⟩
abbrev main_case1b13_v288 : Ref sig .tc := ⟨.hbm, 523, rfl⟩
abbrev main_case1b14_v285 : Ref sig .tc := ⟨.hbm, 524, rfl⟩
abbrev main_case1b14_cst_10 : Ref sig .tc := ⟨.hbm, 525, rfl⟩
abbrev main_case1b14_v286 : Ref sig .tc := ⟨.hbm, 526, rfl⟩
abbrev main_case1b14_v287 : Ref sig .tc := ⟨.hbm, 527, rfl⟩
abbrev main_case1b14_v288 : Ref sig .tc := ⟨.hbm, 528, rfl⟩
abbrev main_case1b15_v285 : Ref sig .tc := ⟨.hbm, 529, rfl⟩
abbrev main_case1b15_cst_10 : Ref sig .tc := ⟨.hbm, 530, rfl⟩
abbrev main_case1b15_v286 : Ref sig .tc := ⟨.hbm, 531, rfl⟩
abbrev main_case1b15_v287 : Ref sig .tc := ⟨.hbm, 532, rfl⟩
abbrev main_case1b15_v288 : Ref sig .tc := ⟨.hbm, 533, rfl⟩
abbrev main_v149 : Ref sig .tc := ⟨.hbm, 534, rfl⟩
abbrev main_v150 : Ref sig .tc := ⟨.hbm, 535, rfl⟩
abbrev main_v151 : Ref sig .tc := ⟨.hbm, 536, rfl⟩
abbrev main_v152 : Ref sig .tc := ⟨.hbm, 537, rfl⟩
abbrev main_v153 : Ref sig .tc := ⟨.hbm, 538, rfl⟩
abbrev main_v154 : Ref sig .tc := ⟨.hbm, 539, rfl⟩
abbrev main_v155 : Ref sig .tc := ⟨.hbm, 540, rfl⟩
abbrev main_v156 : Ref sig .tc := ⟨.hbm, 541, rfl⟩
abbrev main_v157 : Ref sig .tc := ⟨.hbm, 542, rfl⟩
abbrev main_v158 : Ref sig .tc := ⟨.hbm, 543, rfl⟩
abbrev main_v159 : Ref sig .tc := ⟨.hbm, 544, rfl⟩
abbrev main_v160 : Ref sig .tc := ⟨.hbm, 545, rfl⟩
abbrev main_v161 : Ref sig .tc := ⟨.hbm, 546, rfl⟩
abbrev main_v162 : Ref sig .tc := ⟨.hbm, 547, rfl⟩
abbrev main_v163 : Ref sig .tc := ⟨.hbm, 548, rfl⟩
abbrev main_v164 : Ref sig .tc := ⟨.hbm, 549, rfl⟩
abbrev main_v165 : Ref sig .tc := ⟨.hbm, 550, rfl⟩
abbrev main_v166 : Ref sig .tc := ⟨.hbm, 551, rfl⟩
abbrev main_v167 : Ref sig .tc := ⟨.hbm, 552, rfl⟩
abbrev main_v168 : Ref sig .tc := ⟨.hbm, 553, rfl⟩
abbrev main_v169 : Ref sig .tc := ⟨.hbm, 554, rfl⟩
abbrev main_v170 : Ref sig .tc := ⟨.hbm, 555, rfl⟩
abbrev main_v171 : Ref sig .tc := ⟨.hbm, 556, rfl⟩
abbrev main_v172 : Ref sig .tc := ⟨.hbm, 557, rfl⟩
abbrev main_v173 : Ref sig .tc := ⟨.hbm, 558, rfl⟩
abbrev main_v174 : Ref sig .tc := ⟨.hbm, 559, rfl⟩
abbrev main_v175 : Ref sig .tc := ⟨.hbm, 560, rfl⟩
abbrev main_v176 : Ref sig .tc := ⟨.hbm, 561, rfl⟩
abbrev main_v177 : Ref sig .tc := ⟨.hbm, 562, rfl⟩
abbrev main_v178 : Ref sig .tc := ⟨.hbm, 563, rfl⟩
abbrev main_v179 : Ref sig .tc := ⟨.hbm, 564, rfl⟩
abbrev main_v180 : Ref sig .tc := ⟨.hbm, 565, rfl⟩
abbrev main_v181 : Ref sig .tc := ⟨.hbm, 566, rfl⟩
abbrev main_v182 : Ref sig .tc := ⟨.hbm, 567, rfl⟩
abbrev main_v183 : Ref sig .tc := ⟨.hbm, 568, rfl⟩
abbrev main_v184 : Ref sig .tc := ⟨.hbm, 569, rfl⟩
abbrev main_v185 : Ref sig .tc := ⟨.hbm, 570, rfl⟩
abbrev main_v186 : Ref sig .tc := ⟨.hbm, 571, rfl⟩
abbrev main_v187 : Ref sig .tc := ⟨.hbm, 572, rfl⟩
abbrev main_v188 : Ref sig .tc := ⟨.hbm, 573, rfl⟩
abbrev main_v189 : Ref sig .tc := ⟨.hbm, 574, rfl⟩
abbrev main_v190 : Ref sig .tc := ⟨.hbm, 575, rfl⟩
abbrev main_v191 : Ref sig .tc := ⟨.hbm, 576, rfl⟩
abbrev main_v192 : Ref sig .tc := ⟨.hbm, 577, rfl⟩
abbrev main_v193 : Ref sig .tc := ⟨.hbm, 578, rfl⟩
abbrev main_v194 : Ref sig .tc := ⟨.hbm, 579, rfl⟩
abbrev main_v195 : Ref sig .tc := ⟨.hbm, 580, rfl⟩
abbrev main_v196 : Ref sig .tc := ⟨.hbm, 581, rfl⟩
abbrev main_v197 : Ref sig .tc := ⟨.hbm, 582, rfl⟩
abbrev main_v198 : Ref sig .tc := ⟨.hbm, 583, rfl⟩
abbrev main_v199 : Ref sig .tc := ⟨.hbm, 584, rfl⟩
abbrev main_v200 : Ref sig .tc := ⟨.hbm, 585, rfl⟩
abbrev main_v201 : Ref sig .tc := ⟨.hbm, 586, rfl⟩
abbrev main_v202 : Ref sig .tc := ⟨.hbm, 587, rfl⟩
abbrev main_v203 : Ref sig .tc := ⟨.hbm, 588, rfl⟩
abbrev main_v204 : Ref sig .tc := ⟨.hbm, 589, rfl⟩
abbrev main_v205 : Ref sig .tc := ⟨.hbm, 590, rfl⟩
abbrev main_v206 : Ref sig .tc := ⟨.hbm, 591, rfl⟩
abbrev main_v207 : Ref sig .tc := ⟨.hbm, 592, rfl⟩
abbrev main_v208 : Ref sig .tc := ⟨.hbm, 593, rfl⟩
abbrev main_v209 : Ref sig .tc := ⟨.hbm, 594, rfl⟩
abbrev main_v210 : Ref sig .tc := ⟨.hbm, 595, rfl⟩
abbrev main_v211 : Ref sig .tc := ⟨.hbm, 596, rfl⟩
abbrev main_v212 : Ref sig .tc := ⟨.hbm, 597, rfl⟩
abbrev main_v213 : Ref sig .tc := ⟨.hbm, 598, rfl⟩
abbrev main_v214 : Ref sig .tc := ⟨.hbm, 599, rfl⟩
abbrev main_c_6 : Ref sig .tc := ⟨.hbm, 600, rfl⟩
abbrev main_c_7 : Ref sig .tc := ⟨.hbm, 601, rfl⟩
abbrev main_v215 : Ref sig .tc := ⟨.hbm, 602, rfl⟩
abbrev main_v216 : Ref sig .tc := ⟨.hbm, 603, rfl⟩
abbrev main_case2b1_v285 : Ref sig .tc := ⟨.hbm, 604, rfl⟩
abbrev main_case2b1_v286 : Ref sig .tc := ⟨.hbm, 605, rfl⟩
abbrev main_case2b2_cst_10 : Ref sig .tc := ⟨.hbm, 606, rfl⟩
abbrev main_case2b2_v285 : Ref sig .tc := ⟨.hbm, 607, rfl⟩
abbrev main_case2b2_v286 : Ref sig .tc := ⟨.hbm, 608, rfl⟩
abbrev main_case2b2_v287 : Ref sig .tc := ⟨.hbm, 609, rfl⟩
abbrev main_case2b3_v285 : Ref sig .tc := ⟨.hbm, 610, rfl⟩
abbrev main_case2b3_v286 : Ref sig .tc := ⟨.hbm, 611, rfl⟩
abbrev main_case2b4_v285 : Ref sig .tc := ⟨.hbm, 612, rfl⟩
abbrev main_case2b4_v286 : Ref sig .tc := ⟨.hbm, 613, rfl⟩
abbrev main_case2b4_v287 : Ref sig .tc := ⟨.hbm, 614, rfl⟩
abbrev main_case2b4_v288 : Ref sig .tc := ⟨.hbm, 615, rfl⟩
abbrev main_case2b5_v285 : Ref sig .tc := ⟨.hbm, 616, rfl⟩
abbrev main_case2b5_v286 : Ref sig .tc := ⟨.hbm, 617, rfl⟩
abbrev main_case2b5_v287 : Ref sig .tc := ⟨.hbm, 618, rfl⟩
abbrev main_case2b5_v288 : Ref sig .tc := ⟨.hbm, 619, rfl⟩
abbrev main_case2b6_v285 : Ref sig .tc := ⟨.hbm, 620, rfl⟩
abbrev main_case2b6_cst_10 : Ref sig .tc := ⟨.hbm, 621, rfl⟩
abbrev main_case2b6_v286 : Ref sig .tc := ⟨.hbm, 622, rfl⟩
abbrev main_case2b6_v287 : Ref sig .tc := ⟨.hbm, 623, rfl⟩
abbrev main_case2b6_v288 : Ref sig .tc := ⟨.hbm, 624, rfl⟩
abbrev main_case2b7_v285 : Ref sig .tc := ⟨.hbm, 625, rfl⟩
abbrev main_case2b7_cst_10 : Ref sig .tc := ⟨.hbm, 626, rfl⟩
abbrev main_case2b7_v286 : Ref sig .tc := ⟨.hbm, 627, rfl⟩
abbrev main_case2b7_v287 : Ref sig .tc := ⟨.hbm, 628, rfl⟩
abbrev main_case2b7_v288 : Ref sig .tc := ⟨.hbm, 629, rfl⟩
abbrev main_case2b9_v285 : Ref sig .tc := ⟨.hbm, 630, rfl⟩
abbrev main_case2b9_v286 : Ref sig .tc := ⟨.hbm, 631, rfl⟩
abbrev main_case2b10_cst_10 : Ref sig .tc := ⟨.hbm, 632, rfl⟩
abbrev main_case2b10_v285 : Ref sig .tc := ⟨.hbm, 633, rfl⟩
abbrev main_case2b10_v286 : Ref sig .tc := ⟨.hbm, 634, rfl⟩
abbrev main_case2b10_v287 : Ref sig .tc := ⟨.hbm, 635, rfl⟩
abbrev main_case2b11_v285 : Ref sig .tc := ⟨.hbm, 636, rfl⟩
abbrev main_case2b11_v286 : Ref sig .tc := ⟨.hbm, 637, rfl⟩
abbrev main_case2b12_v285 : Ref sig .tc := ⟨.hbm, 638, rfl⟩
abbrev main_case2b12_v286 : Ref sig .tc := ⟨.hbm, 639, rfl⟩
abbrev main_case2b12_v287 : Ref sig .tc := ⟨.hbm, 640, rfl⟩
abbrev main_case2b12_v288 : Ref sig .tc := ⟨.hbm, 641, rfl⟩
abbrev main_case2b13_v285 : Ref sig .tc := ⟨.hbm, 642, rfl⟩
abbrev main_case2b13_v286 : Ref sig .tc := ⟨.hbm, 643, rfl⟩
abbrev main_case2b13_v287 : Ref sig .tc := ⟨.hbm, 644, rfl⟩
abbrev main_case2b13_v288 : Ref sig .tc := ⟨.hbm, 645, rfl⟩
abbrev main_case2b14_v285 : Ref sig .tc := ⟨.hbm, 646, rfl⟩
abbrev main_case2b14_cst_10 : Ref sig .tc := ⟨.hbm, 647, rfl⟩
abbrev main_case2b14_v286 : Ref sig .tc := ⟨.hbm, 648, rfl⟩
abbrev main_case2b14_v287 : Ref sig .tc := ⟨.hbm, 649, rfl⟩
abbrev main_case2b14_v288 : Ref sig .tc := ⟨.hbm, 650, rfl⟩
abbrev main_case2b15_v285 : Ref sig .tc := ⟨.hbm, 651, rfl⟩
abbrev main_case2b15_cst_10 : Ref sig .tc := ⟨.hbm, 652, rfl⟩
abbrev main_case2b15_v286 : Ref sig .tc := ⟨.hbm, 653, rfl⟩
abbrev main_case2b15_v287 : Ref sig .tc := ⟨.hbm, 654, rfl⟩
abbrev main_case2b15_v288 : Ref sig .tc := ⟨.hbm, 655, rfl⟩
abbrev main_v217 : Ref sig .tc := ⟨.hbm, 656, rfl⟩
abbrev main_v218 : Ref sig .tc := ⟨.hbm, 657, rfl⟩
abbrev main_v219 : Ref sig .tc := ⟨.hbm, 658, rfl⟩
abbrev main_v220 : Ref sig .tc := ⟨.hbm, 659, rfl⟩
abbrev main_v221 : Ref sig .tc := ⟨.hbm, 660, rfl⟩
abbrev main_v222 : Ref sig .tc := ⟨.hbm, 661, rfl⟩
abbrev main_v223 : Ref sig .tc := ⟨.hbm, 662, rfl⟩
abbrev main_v224 : Ref sig .tc := ⟨.hbm, 663, rfl⟩
abbrev main_v225 : Ref sig .tc := ⟨.hbm, 664, rfl⟩
abbrev main_v226 : Ref sig .tc := ⟨.hbm, 665, rfl⟩
abbrev main_v227 : Ref sig .tc := ⟨.hbm, 666, rfl⟩
abbrev main_v228 : Ref sig .tc := ⟨.hbm, 667, rfl⟩
abbrev main_v229 : Ref sig .tc := ⟨.hbm, 668, rfl⟩
abbrev main_v230 : Ref sig .tc := ⟨.hbm, 669, rfl⟩
abbrev main_v231 : Ref sig .tc := ⟨.hbm, 670, rfl⟩
abbrev main_v232 : Ref sig .tc := ⟨.hbm, 671, rfl⟩
abbrev main_v233 : Ref sig .tc := ⟨.hbm, 672, rfl⟩
abbrev main_v234 : Ref sig .tc := ⟨.hbm, 673, rfl⟩
abbrev main_v235 : Ref sig .tc := ⟨.hbm, 674, rfl⟩
abbrev main_v236 : Ref sig .tc := ⟨.hbm, 675, rfl⟩
abbrev main_v237 : Ref sig .tc := ⟨.hbm, 676, rfl⟩
abbrev main_v238 : Ref sig .tc := ⟨.hbm, 677, rfl⟩
abbrev main_v239 : Ref sig .tc := ⟨.hbm, 678, rfl⟩
abbrev main_v240 : Ref sig .tc := ⟨.hbm, 679, rfl⟩
abbrev main_v241 : Ref sig .tc := ⟨.hbm, 680, rfl⟩
abbrev main_v242 : Ref sig .tc := ⟨.hbm, 681, rfl⟩
abbrev main_v243 : Ref sig .tc := ⟨.hbm, 682, rfl⟩
abbrev main_v244 : Ref sig .tc := ⟨.hbm, 683, rfl⟩
abbrev main_v245 : Ref sig .tc := ⟨.hbm, 684, rfl⟩
abbrev main_v246 : Ref sig .tc := ⟨.hbm, 685, rfl⟩
abbrev main_v247 : Ref sig .tc := ⟨.hbm, 686, rfl⟩
abbrev main_v248 : Ref sig .tc := ⟨.hbm, 687, rfl⟩
abbrev main_v249 : Ref sig .tc := ⟨.hbm, 688, rfl⟩
abbrev main_v250 : Ref sig .tc := ⟨.hbm, 689, rfl⟩
abbrev main_v251 : Ref sig .tc := ⟨.hbm, 690, rfl⟩
abbrev main_v252 : Ref sig .tc := ⟨.hbm, 691, rfl⟩
abbrev main_v253 : Ref sig .tc := ⟨.hbm, 692, rfl⟩
abbrev main_v254 : Ref sig .tc := ⟨.hbm, 693, rfl⟩
abbrev main_v255 : Ref sig .tc := ⟨.hbm, 694, rfl⟩
abbrev main_v256 : Ref sig .tc := ⟨.hbm, 695, rfl⟩
abbrev main_v257 : Ref sig .tc := ⟨.hbm, 696, rfl⟩
abbrev main_v258 : Ref sig .tc := ⟨.hbm, 697, rfl⟩
abbrev main_v259 : Ref sig .tc := ⟨.hbm, 698, rfl⟩
abbrev main_v260 : Ref sig .tc := ⟨.hbm, 699, rfl⟩
abbrev main_v261 : Ref sig .tc := ⟨.hbm, 700, rfl⟩
abbrev main_v262 : Ref sig .tc := ⟨.hbm, 701, rfl⟩
abbrev main_v263 : Ref sig .tc := ⟨.hbm, 702, rfl⟩
abbrev main_v264 : Ref sig .tc := ⟨.hbm, 703, rfl⟩
abbrev main_v265 : Ref sig .tc := ⟨.hbm, 704, rfl⟩
abbrev main_v266 : Ref sig .tc := ⟨.hbm, 705, rfl⟩
abbrev main_v267 : Ref sig .tc := ⟨.hbm, 706, rfl⟩
abbrev main_v268 : Ref sig .tc := ⟨.hbm, 707, rfl⟩
abbrev main_v269 : Ref sig .tc := ⟨.hbm, 708, rfl⟩
abbrev main_v270 : Ref sig .tc := ⟨.hbm, 709, rfl⟩
abbrev main_v271 : Ref sig .tc := ⟨.hbm, 710, rfl⟩
abbrev main_v272 : Ref sig .tc := ⟨.hbm, 711, rfl⟩
abbrev main_v273 : Ref sig .tc := ⟨.hbm, 712, rfl⟩
abbrev main_v274 : Ref sig .tc := ⟨.hbm, 713, rfl⟩
abbrev main_v275 : Ref sig .tc := ⟨.hbm, 714, rfl⟩
abbrev main_v276 : Ref sig .tc := ⟨.hbm, 715, rfl⟩
abbrev main_v277 : Ref sig .tc := ⟨.hbm, 716, rfl⟩
abbrev main_v278 : Ref sig .tc := ⟨.hbm, 717, rfl⟩
abbrev main_v279 : Ref sig .tc := ⟨.hbm, 718, rfl⟩
abbrev main_v280 : Ref sig .tc := ⟨.hbm, 719, rfl⟩
abbrev main_v281 : Ref sig .tc := ⟨.hbm, 720, rfl⟩
abbrev main_v282 : Ref sig .tc := ⟨.hbm, 721, rfl⟩
abbrev main_c_8 : Ref sig .tc := ⟨.hbm, 722, rfl⟩
abbrev main_c_9 : Ref sig .tc := ⟨.hbm, 723, rfl⟩
abbrev main_v283 : Ref sig .tc := ⟨.hbm, 724, rfl⟩
abbrev main_v284 : Ref sig .tc := ⟨.hbm, 725, rfl⟩
abbrev main_case3b1_v285 : Ref sig .tc := ⟨.hbm, 726, rfl⟩
abbrev main_case3b1_v286 : Ref sig .tc := ⟨.hbm, 727, rfl⟩
abbrev main_case3b2_cst_10 : Ref sig .tc := ⟨.hbm, 728, rfl⟩
abbrev main_case3b2_v285 : Ref sig .tc := ⟨.hbm, 729, rfl⟩
abbrev main_case3b2_v286 : Ref sig .tc := ⟨.hbm, 730, rfl⟩
abbrev main_case3b2_v287 : Ref sig .tc := ⟨.hbm, 731, rfl⟩
abbrev main_case3b3_v285 : Ref sig .tc := ⟨.hbm, 732, rfl⟩
abbrev main_case3b3_v286 : Ref sig .tc := ⟨.hbm, 733, rfl⟩
abbrev main_case3b4_v285 : Ref sig .tc := ⟨.hbm, 734, rfl⟩
abbrev main_case3b4_v286 : Ref sig .tc := ⟨.hbm, 735, rfl⟩
abbrev main_case3b4_v287 : Ref sig .tc := ⟨.hbm, 736, rfl⟩
abbrev main_case3b4_v288 : Ref sig .tc := ⟨.hbm, 737, rfl⟩
abbrev main_case3b5_v285 : Ref sig .tc := ⟨.hbm, 738, rfl⟩
abbrev main_case3b5_v286 : Ref sig .tc := ⟨.hbm, 739, rfl⟩
abbrev main_case3b5_v287 : Ref sig .tc := ⟨.hbm, 740, rfl⟩
abbrev main_case3b5_v288 : Ref sig .tc := ⟨.hbm, 741, rfl⟩
abbrev main_case3b6_v285 : Ref sig .tc := ⟨.hbm, 742, rfl⟩
abbrev main_case3b6_cst_10 : Ref sig .tc := ⟨.hbm, 743, rfl⟩
abbrev main_case3b6_v286 : Ref sig .tc := ⟨.hbm, 744, rfl⟩
abbrev main_case3b6_v287 : Ref sig .tc := ⟨.hbm, 745, rfl⟩
abbrev main_case3b6_v288 : Ref sig .tc := ⟨.hbm, 746, rfl⟩
abbrev main_case3b7_v285 : Ref sig .tc := ⟨.hbm, 747, rfl⟩
abbrev main_case3b7_cst_10 : Ref sig .tc := ⟨.hbm, 748, rfl⟩
abbrev main_case3b7_v286 : Ref sig .tc := ⟨.hbm, 749, rfl⟩
abbrev main_case3b7_v287 : Ref sig .tc := ⟨.hbm, 750, rfl⟩
abbrev main_case3b7_v288 : Ref sig .tc := ⟨.hbm, 751, rfl⟩
abbrev main_case3b9_v285 : Ref sig .tc := ⟨.hbm, 752, rfl⟩
abbrev main_case3b9_v286 : Ref sig .tc := ⟨.hbm, 753, rfl⟩
abbrev main_case3b10_cst_10 : Ref sig .tc := ⟨.hbm, 754, rfl⟩
abbrev main_case3b10_v285 : Ref sig .tc := ⟨.hbm, 755, rfl⟩
abbrev main_case3b10_v286 : Ref sig .tc := ⟨.hbm, 756, rfl⟩
abbrev main_case3b10_v287 : Ref sig .tc := ⟨.hbm, 757, rfl⟩
abbrev main_case3b11_v285 : Ref sig .tc := ⟨.hbm, 758, rfl⟩
abbrev main_case3b11_v286 : Ref sig .tc := ⟨.hbm, 759, rfl⟩
abbrev main_case3b12_v285 : Ref sig .tc := ⟨.hbm, 760, rfl⟩
abbrev main_case3b12_v286 : Ref sig .tc := ⟨.hbm, 761, rfl⟩
abbrev main_case3b12_v287 : Ref sig .tc := ⟨.hbm, 762, rfl⟩
abbrev main_case3b12_v288 : Ref sig .tc := ⟨.hbm, 763, rfl⟩
abbrev main_case3b13_v285 : Ref sig .tc := ⟨.hbm, 764, rfl⟩
abbrev main_case3b13_v286 : Ref sig .tc := ⟨.hbm, 765, rfl⟩
abbrev main_case3b13_v287 : Ref sig .tc := ⟨.hbm, 766, rfl⟩
abbrev main_case3b13_v288 : Ref sig .tc := ⟨.hbm, 767, rfl⟩
abbrev main_case3b14_v285 : Ref sig .tc := ⟨.hbm, 768, rfl⟩
abbrev main_case3b14_cst_10 : Ref sig .tc := ⟨.hbm, 769, rfl⟩
abbrev main_case3b14_v286 : Ref sig .tc := ⟨.hbm, 770, rfl⟩
abbrev main_case3b14_v287 : Ref sig .tc := ⟨.hbm, 771, rfl⟩
abbrev main_case3b14_v288 : Ref sig .tc := ⟨.hbm, 772, rfl⟩
abbrev main_case3b15_v285 : Ref sig .tc := ⟨.hbm, 773, rfl⟩
abbrev main_case3b15_cst_10 : Ref sig .tc := ⟨.hbm, 774, rfl⟩
abbrev main_case3b15_v286 : Ref sig .tc := ⟨.hbm, 775, rfl⟩
abbrev main_case3b15_v287 : Ref sig .tc := ⟨.hbm, 776, rfl⟩
abbrev main_case3b15_v288 : Ref sig .tc := ⟨.hbm, 777, rfl⟩

abbrev nD : Nat := 1
abbrev τ : Topo := Topo.v7x

variable {F : FTy → Type} [FloatOps F]
-- ==== Proof.K.General.lean ====
/- The general pallas_call: what one grid point of its kernel computes (`genBlock`: the four layers, each a combination of the
   running value, its sine and its hyperbolic tangent), run by the executor, and what the region does to memory. -/
module

public import proofs.«01_k».proof.Proof.K.Affine

@[expose] public section

noncomputable section

namespace Cert.Proof.K

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-- What the general kernel leaves in the output block, over the contents of its five input buffers. -/
noncomputable def genRun (c : Dev nD) (i : grid1.Coords) (M0 : Memref sig .tc .smem S4 .f32) (h0 : M0.IsWhole)
    (M1 : Memref sig .tc .smem S4 .f32) (h1 : M1.IsWhole) (M2 : Memref sig .tc .smem S4 .f32) (h2 : M2.IsWhole)
    (M3 : Memref sig .tc .smem S4 .f32) (h3 : M3.IsWhole)
    (M4 : Memref sig .tc .vmem S16x3x224x224 .f32) (h4 : M4.IsWhole) (M5 : Memref sig .tc .vmem S16x3x224x224 .f32) (h5 : M5.IsWhole)
    (f0 : Bf (F := F) c M0) (f1 : Bf (F := F) c M1) (f2 : Bf (F := F) c M2) (f3 : Bf (F := F) c M3) (f4 : Bf (F := F) c M4) :
    { W : Bf (F := F) c M5 // ∀ (f5 : Bf (F := F) c M5) (E : Set ℕ) (Q : PUnit → sProp 𝕄),
        iprop(pt c M0 f0 ∗ pt c M1 f1 ∗ pt c M2 f2 ∗ pt c M3 f3 ∗ pt c M4 f4 ∗ pt c M5 f5
            ∗ (iprop(pt c M0 f0 ∗ pt c M1 f1 ∗ pt c M2 f2 ∗ pt c M3 f3 ∗ pt c M4 f4 ∗ pt c M5 W) -∗ Q ⟨⟩))
          ⊢ wp frame (wpE (defs₀ (F := F)) Variants.none c none) E (cc1__general_kernel i M0 h0 M1 h1 M2 h2 M3 h3 M4 h4 M5 h5) Q } := by
  refine ⟨?_, fun f5 E Q => ?run⟩
  case run =>
    rw [cc1__general_kernel_eq_skeleton]
    unfold cc1__general_kernel_skel
    rw [k1_part1_eq_skeleton]
    unfold k1_part1_skel
    iintro ⟨H0, H1, H2, H3, H4, H5, Hk⟩
    sl_exec!
    sl_step
    iapply Hk
    isplitl [H0]; · iexact H0
    isplitl [H1]; · iexact H1
    isplitl [H2]; · iexact H2
    isplitl [H3]; · iexact H3
    isplitl [H4]; · iexact H4
    iexact H5

/-- One layer: `a·x + b + c·sin x + d·tanh x`, elementwise. -/
def layerVec {S : Shape} (a b c d : Elt F .f32) (x : Vec F S .f32) : FVec F S .f32 :=
  addf (addf (addf (mulf (broadcast S a) x) (broadcast S b)) (mulf (broadcast S c) (sin x))) (mulf (broadcast S d) (tanh x))

/-- The four layers in turn, layer `k`'s coefficients being word `k` of each of the four vectors. -/
def layersVec {S : Shape} (a b c d : Vec F S4 .f32) (x : Vec F S .f32) : Vec F S .f32 :=
  layerVec (a (word4 3)) (b (word4 3)) (c (word4 3)) (d (word4 3))
    (layerVec (a (word4 2)) (b (word4 2)) (c (word4 2)) (d (word4 2))
      (layerVec (a (word4 1)) (b (word4 1)) (c (word4 1)) (d (word4 1))
        (layerVec (a (word4 0)) (b (word4 0)) (c (word4 0)) (d (word4 0)) x)))

omit [FloatOps F] in
/-- A scalar load at offset `o` of a four-word buffer reads word `o`. -/
theorem word_read (M : Memref sig .tc .smem S4 .f32) (f : M.view.ty.Contents (Elt F)) (o : Nat)
    (inb : ∀ a, (![o] : Fin 1 → Nat) a + S1.size a ≤ S4.size a) (ho : o < 4) (j) :
    View.readAt (Elt F) M.view (Rect.unit (s := S4) ![o] S1.size inb).toLoadRect f j = M.view.read (Elt F) f (word4 ⟨o, ho⟩) :=
  congrArg (M.view.read (Elt F) f) (funext fun a => by
    match a with
    | ⟨0, _⟩ =>
      apply Fin.ext
      have hj : (j 0).val = 0 := Nat.lt_one_iff.mp (j 0).isLt
      show o + 1 * (j 0).val = o
      omega)

theorem genRun_read (c : Dev nD) (i : grid1.Coords) (M0 : Memref sig .tc .smem S4 .f32) (h0 : M0.IsWhole)
    (M1 : Memref sig .tc .smem S4 .f32) (h1 : M1.IsWhole) (M2 : Memref sig .tc .smem S4 .f32) (h2 : M2.IsWhole)
    (M3 : Memref sig .tc .smem S4 .f32) (h3 : M3.IsWhole)
    (M4 : Memref sig .tc .vmem S16x3x224x224 .f32) (h4 : M4.IsWhole) (M5 : Memref sig .tc .vmem S16x3x224x224 .f32) (h5 : M5.IsWhole)
    (f0 : Bf (F := F) c M0) (f1 : Bf (F := F) c M1) (f2 : Bf (F := F) c M2) (f3 : Bf (F := F) c M3) (f4 : Bf (F := F) c M4) :
    M5.view.read (Elt F) (genRun c i M0 h0 M1 h1 M2 h2 M3 h3 M4 h4 M5 h5 f0 f1 f2 f3 f4).1
      = layersVec (M0.view.read (Elt F) f0) (M1.view.read (Elt F) f1) (M2.view.read (Elt F) f2) (M3.view.read (Elt F) f3)
          (M4.view.read (Elt F) f4) := by
  unfold genRun
  dsimp only
  rw [View.read_writes_junk_eq_canon]
  unfold genRun.sl.H5_1
  rw [View.canon_unit_zero zero4]
  rw [View.readAt_eq_ld, View.ld_unit_zero zero4]
  have w {M : Memref sig .tc .smem S4 .f32} (f : M.view.ty.Contents (Elt F)) := word_read M f
  rw [show genRun.sl.r c M0 f0 = _ from w f0 0 _ (by decide) _, show genRun.sl.r_1 c M1 f1 = _ from w f1 0 _ (by decide) _,
    show genRun.sl.r_2 c M2 f2 = _ from w f2 0 _ (by decide) _, show genRun.sl.r_3 c M3 f3 = _ from w f3 0 _ (by decide) _,
    show genRun.sl.r_4 c M0 f0 = _ from w f0 1 _ (by decide) _, show genRun.sl.r_5 c M1 f1 = _ from w f1 1 _ (by decide) _,
    show genRun.sl.r_6 c M2 f2 = _ from w f2 1 _ (by decide) _, show genRun.sl.r_7 c M3 f3 = _ from w f3 1 _ (by decide) _,
    show genRun.sl.r_8 c M0 f0 = _ from w f0 2 _ (by decide) _, show genRun.sl.r_9 c M1 f1 = _ from w f1 2 _ (by decide) _,
    show genRun.sl.r_10 c M2 f2 = _ from w f2 2 _ (by decide) _, show genRun.sl.r_11 c M3 f3 = _ from w f3 2 _ (by decide) _,
    show genRun.sl.r_12 c M0 f0 = _ from w f0 3 _ (by decide) _, show genRun.sl.r_13 c M1 f1 = _ from w f1 3 _ (by decide) _,
    show genRun.sl.r_14 c M2 f2 = _ from w f2 3 _ (by decide) _, show genRun.sl.r_15 c M3 f3 = _ from w f3 3 _ (by decide) _]
  rfl

/-! ## The region's proof data, at the contents `V` of every buffer when it is entered -/

section Region

variable (V : (c : Dev nD) → (b : Ref sig .tc) → Buf (Elt F) ((c : Thread nD τ).loc b))

/-- The block of window `w`'s array that grid point `t` works on. -/
abbrev blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The part of the state that the pipeline leaves alone. -/
abbrev Φ1 (c : Dev nD) : sProp 𝕄 := Pipeline.scopedRest (Ix := Unit) (Name := ℕ) (U := UU) (Lvl := ℕ) (Val := Elt F) spec1 c

/-- The arrays as the region finds them; after the body each input's block as fetched and the output's as computed. -/
def dat1 (c : Dev nD) : Dat τ (Elt F) Unit ℕ UU ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => blk1 V c 3 t
    | ⟨4, _⟩ => blk1 V c 4 t
    | ⟨5, _⟩ => layersVec (blk1 V c 0 t) (blk1 V c 1 t) (blk1 V c 2 t) (blk1 V c 3 t) (blk1 V c 4 t)
  Φ _ := Φ1 c
  q _ := fullShare
  owed _ := 0

theorem before1_0 (c : Dev nD) (t : Fin cfg1.N) (d) : (dat1 V c).before 0 t d = blk1 V c 0 t :=
  (dat1 V c).before_in_eq_fetched 0 rfl (fun _ => rfl) (fun _ _ _ => rfl) (fun _ => rfl) t d
theorem before1_1 (c : Dev nD) (t : Fin cfg1.N) (d) : (dat1 V c).before 1 t d = blk1 V c 1 t :=
  (dat1 V c).before_in_eq_fetched 1 rfl (fun _ => rfl) (fun _ _ _ => rfl) (fun _ => rfl) t d
theorem before1_2 (c : Dev nD) (t : Fin cfg1.N) (d) : (dat1 V c).before 2 t d = blk1 V c 2 t :=
  (dat1 V c).before_in_eq_fetched 2 rfl (fun _ => rfl) (fun _ _ _ => rfl) (fun _ => rfl) t d
theorem before1_3 (c : Dev nD) (t : Fin cfg1.N) (d) : (dat1 V c).before 3 t d = blk1 V c 3 t :=
  (dat1 V c).before_in_eq_fetched 3 rfl (fun _ => rfl) (fun _ _ _ => rfl) (fun _ => rfl) t d
theorem before1_4 (c : Dev nD) (t : Fin cfg1.N) (d) : (dat1 V c).before 4 t d = blk1 V c 4 t :=
  (dat1 V c).before_in_eq_fetched 4 rfl (fun _ => rfl) (fun _ _ _ => rfl) (fun _ => rfl) t d

theorem body1 (c : Dev nD) : BodyObligation (dat1 V c) (defs₀ (F := F)) Variants.none () Set.univ := fun t => by
  rw [bigSep_W1, bigSep_W1]
  rw [show (dat1 V c).Φ t.castSucc = Φ1 c from rfl, show (dat1 V c).Φ t.succ = Φ1 c from rfl,
    show (dat1 V c).owesAt () t.succ = (dat1 V c).owesAt () t.castSucc from rfl]
  have e0 : ∀ X, (owns (c : Thread nD τ) (st1_0 t) fullShare X : sProp 𝕄) = _ := owns_isWhole c (st1_0 t) (hstage1_0 _)
  have e1 : ∀ X, (owns (c : Thread nD τ) (st1_1 t) fullShare X : sProp 𝕄) = _ := owns_isWhole c (st1_1 t) (hstage1_1 _)
  have e2 : ∀ X, (owns (c : Thread nD τ) (st1_2 t) fullShare X : sProp 𝕄) = _ := owns_isWhole c (st1_2 t) (hstage1_2 _)
  have e3 : ∀ X, (owns (c : Thread nD τ) (st1_3 t) fullShare X : sProp 𝕄) = _ := owns_isWhole c (st1_3 t) (hstage1_3 _)
  have e4 : ∀ X, (owns (c : Thread nD τ) (st1_4 t) fullShare X : sProp 𝕄) = _ := owns_isWhole c (st1_4 t) (hstage1_4 _)
  have e5 : ∀ X, (owns (c : Thread nD τ) (st1_5 t) fullShare X : sProp 𝕄) = _ := owns_isWhole c (st1_5 t) (hstage1_5 _)
  simp only [e0, e1, e2, e3, e4, e5]
  iintro ⟨HΦ, Howes, ⟨%d0, %f0, %hf0, H0⟩, ⟨%d1, %f1, %hf1, H1⟩, ⟨%d2, %f2, %hf2, H2⟩, ⟨%d3, %f3, %hf3, H3⟩,
    ⟨%d4, %f4, %hf4, H4⟩, ⟨%d5, %f5, -, H5⟩⟩
  rw [before1_0] at hf0
  rw [before1_1] at hf1
  rw [before1_2] at hf2
  rw [before1_3] at hf3
  rw [before1_4] at hf4
  iapply ((genRun c (grid1.coords t) (st1_0 t) (hstage1_0 ((cfg1.slots t 0).cast nbuf1_0)) (st1_1 t) (hstage1_1 ((cfg1.slots t 1).cast nbuf1_1))
    (st1_2 t) (hstage1_2 ((cfg1.slots t 2).cast nbuf1_2)) (st1_3 t) (hstage1_3 ((cfg1.slots t 3).cast nbuf1_3))
    (st1_4 t) (hstage1_4 ((cfg1.slots t 4).cast nbuf1_4)) (st1_5 t) (hstage1_5 ((cfg1.slots t 5).cast nbuf1_5)) f0 f1 f2 f3 f4).2 f5 Set.univ _)
  isplitl [H0]; · iexact H0
  isplitl [H1]; · iexact H1
  isplitl [H2]; · iexact H2
  isplitl [H3]; · iexact H3
  isplitl [H4]; · iexact H4
  isplitl [H5]; · iexact H5
  iintro ⟨H0, H1, H2, H3, H4, H5⟩
  isplitl [HΦ]; · iexact HΦ
  isplitl [Howes]; · iexact Howes
  isplitl [H0]; · iexists f0; isplitr; swap; (· iexact H0); ipureintro; exact hf0
  isplitl [H1]; · iexists f1; isplitr; swap; (· iexact H1); ipureintro; exact hf1
  isplitl [H2]; · iexists f2; isplitr; swap; (· iexact H2); ipureintro; exact hf2
  isplitl [H3]; · iexists f3; isplitr; swap; (· iexact H3); ipureintro; exact hf3
  isplitl [H4]; · iexists f4; isplitr; swap; (· iexact H4); ipureintro; exact hf4
  iexists _; isplitr; swap; (· iexact H5); ipureintro
  rw [genRun_read, hf0, hf1, hf2, hf3, hf4]
  rfl

theorem ix1_0 : ∀ t : Fin cfg1.N, win1_0.index t = ![0] := (by decide +kernel : ∀ t : Fin grid1.N, _)
theorem ix1_1 : ∀ t : Fin cfg1.N, win1_1.index t = ![0] := (by decide +kernel : ∀ t : Fin grid1.N, _)
theorem ix1_2 : ∀ t : Fin cfg1.N, win1_2.index t = ![0] := (by decide +kernel : ∀ t : Fin grid1.N, _)
theorem ix1_3 : ∀ t : Fin cfg1.N, win1_3.index t = ![0] := (by decide +kernel : ∀ t : Fin grid1.N, _)
theorem ix1_4 : ∀ t : Fin cfg1.N, win1_4.index t = win1_5.index t := (by decide +kernel : ∀ t : Fin grid1.N, _)

/-- A coefficient window's block is its whole vector. -/
theorem blk1_0 (c : Dev nD) (t : Fin cfg1.N) : blk1 V c 0 t = V c main_v65 := by
  funext y; blk_simp [blk1]; congr 1; blk_ext [ix1_0]
theorem blk1_1 (c : Dev nD) (t : Fin cfg1.N) : blk1 V c 1 t = V c main_v66 := by
  funext y; blk_simp [blk1]; congr 1; blk_ext [ix1_1]
theorem blk1_2 (c : Dev nD) (t : Fin cfg1.N) : blk1 V c 2 t = V c main_v67 := by
  funext y; blk_simp [blk1]; congr 1; blk_ext [ix1_2]
theorem blk1_3 (c : Dev nD) (t : Fin cfg1.N) : blk1 V c 3 t = V c main_v70 := by
  funext y; blk_simp [blk1]; congr 1; blk_ext [ix1_3]
theorem blk1_4 (c : Dev nD) (t : Fin cfg1.N) (y : S16x3x224x224.Idx) :
    blk1 V c 4 t y = V c main_arg0 ((win1_5.blk t).view.emb y) := by
  blk_simp [blk1]; congr 1; blk_ext [ix1_4]

/-- The layers work element by element: on vectors of two shapes that agree at an index of each, so do the results. -/
theorem layersVec_congr {S T : Shape} (a b c d : Vec F S4 .f32) (x : Vec F S .f32) (y : Vec F T .f32) (i : S.Idx) (j : T.Idx)
    (h : x i = y j) : layersVec a b c d x i = layersVec a b c d y j := by
  have key (a b c d : Elt F .f32) (x : Vec F S .f32) (y : Vec F T .f32) (h : x i = y j) : layerVec a b c d x i = layerVec a b c d y j := by
    show FloatOps.addf (FloatOps.addf (FloatOps.addf (FloatOps.mulf a (x i)) b) (FloatOps.mulf c (FloatOps.sin (x i)))) (FloatOps.mulf d (FloatOps.tanh (x i)))
      = FloatOps.addf (FloatOps.addf (FloatOps.addf (FloatOps.mulf a (y j)) b) (FloatOps.mulf c (FloatOps.sin (y j)))) (FloatOps.mulf d (FloatOps.tanh (y j)))
    rw [h]
  exact key _ _ _ _ _ _ (key _ _ _ _ _ _ (key _ _ _ _ _ _ (key _ _ _ _ _ _ h)))

theorem arr1 (c : Dev nD) : (dat1 V c).arrAt 5 cfg1.N
    = layersVec (V c main_v65) (V c main_v66) (V c main_v67) (V c main_v70) (V c main_arg0) := by
  refine (dat1 V c).arrAt_eq_of_covers 5 _ (by decide +kernel) fun t hf y => ?_
  blk_simp
  show layersVec (blk1 V c 0 t) (blk1 V c 1 t) (blk1 V c 2 t) (blk1 V c 3 t) (blk1 V c 4 t) y = _
  rw [blk1_0, blk1_1, blk1_2, blk1_3]
  exact layersVec_congr _ _ _ _ _ _ _ _ (blk1_4 V c t y)

variable (adm : (p : Fin 2) → (pcfgs (F := F) p).Adm)

/-- The proof data of every pipeline, for an entry of the general region. -/
def pdats1 : (p : Fin 2) → (c : Dev nD) → Dat τ (Elt F) Unit ℕ UU ℕ (Pipeline.pin (pcfgs (F := F)) adm p) c
  | ⟨0, _⟩ => fun c => junkDat c
  | ⟨1, _⟩ => fun c => dat1 V c

variable (Vp : (c : Dev nD) → (b : Ref sig .tc) → Buf (Elt F) ((c : Thread nD τ).loc b))

set_option backward.isDefEq.respectTransparency.types false in
/-- The general region over the thread state "every unscoped buffer at `V c`, and the core's `owes`": it is left with the
    buffers at any `Vp` that has the result array at what the region computes and agrees with `V` elsewhere. -/
def reg1 (hVp_out : ∀ c, Vp c main_case0b1_v109 = layersVec (V c main_v65) (V c main_v66) (V c main_v67) (V c main_v70) (V c main_arg0))
    (hVp_ne : ∀ c (b : Ref sig .tc), b ≠ main_case0b1_v109 → Vp c b = V c b) :
    Pipeline.RegionSeg (pcfgs (F := F)) adm (pdats1 V adm) () defs₀ Variants.none L lv 1 where
  win := launch1.win.to₀
  block_pos := launch1.block_pos
  stage_whole := launch1.stage_whole
  K := PEmpty
  osem k := k.elim
  ho := Pipeline.OwnSemFacts.none _
  hbody c := (body1 V c).loose
  hwaits := Pipeline.hwaits_of_owed_zero _ _ _ _ L lv 1 fun _ _ => rfl
  pre c := iprop(unscopedBufs c (V c) ∗ ∃ W, owes (c : Thread nD τ) (0 : CellTallies nD τ sig Unit) W)
  post c := iprop(unscopedBufs c (Vp c) ∗ ∃ W, owes (c : Thread nD τ) (0 : CellTallies nD τ sig Unit) W)
  X _ := BI.emp
  Y _ := BI.emp
  Z c := Pipeline.unscopedRest (Ix := Unit) (Name := ℕ) (U := UU) (Lvl := ℕ) spec1 c (V c)
  hentry c := by
    rw [Pipeline.ownSems0_none]
    have hsplit := Pipeline.arrays_of_unscopedBufs (p := 1) (pcfgs (F := F)) adm (pdats1 V adm) launch1.win launch1.arr_whole c
      ((pdats1 V adm 1 c).share_full fun _ => rfl) (V c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (pdats1 V adm 1 c).Φ 0 = Φ1 c from rfl]
    iintro ⟨-, -, Hr⟩; iexact Hr
  hout c := by
    rw [Pipeline.ownSems0_none, show (pdats1 V adm 1 c).Φ (Fin.last _) = Φ1 c from rfl]
    iintro Hr
    isplitr; · iempintro
    isplitr; · iempintro
    iexact Hr
  hexit c := by
    have hjoin := Pipeline.unscopedBufs_of_arrays (p := 1) (pcfgs (F := F)) adm (Ix := Unit) (Name := ℕ) (U := UU) (Lvl := ℕ) launch1.win launch1.arr_whole c
      (pdats1 V adm) ((pdats1 V adm 1 c).share_full fun _ => rfl) (V c) (Vp c) ((pdats1 V adm 1 c).arrAt · cfg1.N)
      (fun w => by
        fin_cases w
        · exact ((pdats1 V adm 1 c).arrAt_in 0 rfl _).trans (hVp_ne c main_v65 (by decide)).symm
        · exact ((pdats1 V adm 1 c).arrAt_in 1 rfl _).trans (hVp_ne c main_v66 (by decide)).symm
        · exact ((pdats1 V adm 1 c).arrAt_in 2 rfl _).trans (hVp_ne c main_v67 (by decide)).symm
        · exact ((pdats1 V adm 1 c).arrAt_in 3 rfl _).trans (hVp_ne c main_v70 (by decide)).symm
        · exact ((pdats1 V adm 1 c).arrAt_in 4 rfl _).trans (hVp_ne c main_arg0 (by decide)).symm
        · exact (arr1 V c).trans (hVp_out c).symm)
      (fun b hb => hVp_ne c b fun h => hb (h ▸ Finset.mem_image.mpr ⟨5, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

end Region

end Cert.Proof.K

end
-- ==== Proof.Affine.lean ====
/- The affine pallas_call: what one grid point of its kernel computes (`affBlock`), run by the executor, and what the
   region does to memory. -/
module

public import proofs.«01_k».proof.Proof.Gen.KernelIdeal.Launch
public import proofs.«01_k».proof.Proof.Gen.KernelIdeal.Points
public import proofs.«01_k».proof.Proof.Gen.KernelIdeal.Skeleton
public import Idealize.ShloMosaic.Lib.Pipeline.RegionsLoop
public import Idealize.ShloMosaic.Lib.Pipeline.ValueKit
public import Idealize.ShloMosaic.Lib.Pipeline.FrameBody
public import Idealize.ShloMosaic.Lib.Tactic

@[expose] public section

noncomputable section

namespace Cert.Proof.KI

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The resource algebra: two copies of the pipeline library's, one for the launch theorem and one carried by the branch. -/
abbrev UU : Type := IProdConst (Fin 2) (UR sig nD τ) × Counters

local notation "𝕄" => MT nD τ sig Unit (Elt F) ℕ UU ℕ

/-- A memref's contents on core `c`, and the memref held whole at contents `f`. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

/-- What the affine kernel leaves in the output block, over the contents of its two input buffers. -/
noncomputable def affRun (c : Dev nD) (i : grid0.Coords) (M0 : Memref sig .tc .smem S2 .f32) (h0 : M0.IsWhole)
    (M1 : Memref sig .tc .vmem S16x3x224x224 .f32) (h1 : M1.IsWhole) (M2 : Memref sig .tc .vmem S16x3x224x224 .f32) (h2 : M2.IsWhole)
    (f0 : Bf (F := F) c M0) (f1 : Bf (F := F) c M1) :
    { W : Bf (F := F) c M2 // ∀ (f2 : Bf (F := F) c M2) (E : Set ℕ) (Q : PUnit → sProp 𝕄),
        iprop(pt c M0 f0 ∗ pt c M1 f1 ∗ pt c M2 f2 ∗ (iprop(pt c M0 f0 ∗ pt c M1 f1 ∗ pt c M2 W) -∗ Q ⟨⟩))
          ⊢ wp frame (wpE (defs₀ (F := F)) Variants.none c none) E (cc0__affine_kernel i M0 h0 M1 h1 M2 h2) Q } := by
  refine ⟨?_, fun f2 E Q => ?run⟩
  case run =>
    rw [cc0__affine_kernel_eq_skeleton]
    unfold cc0__affine_kernel_skel
    iintro ⟨H0, H1, H2, Hk⟩
    sl_exec!
    sl_step
    iapply Hk
    isplitl [H0]; · iexact H0
    isplitl [H1]; · iexact H1
    iexact H2

/-- Place `k` of a two-word and of a four-word vector. -/
def word2 (k : Fin 2) : S2.Idx := fun a => match a with | ⟨0, _⟩ => k
def word4 (k : Fin 4) : S4.Idx := fun a => match a with | ⟨0, _⟩ => k

/-- The block the affine kernel computes from the two coefficients and the image block. -/
def affBlock (s : Vec F S2 .f32) (x : Vec F S16x3x224x224 .f32) : Vec F S16x3x224x224 .f32 :=
  k0_pay1 (s (word2 0)) x (s (word2 1))

theorem zero4 : (![0, 0, 0, 0] : Fin 4 → Nat) = fun _ => 0 := funext fun a => by fin_cases a <;> rfl

theorem affRun_read (c : Dev nD) (i : grid0.Coords) (M0 : Memref sig .tc .smem S2 .f32) (h0 : M0.IsWhole)
    (M1 : Memref sig .tc .vmem S16x3x224x224 .f32) (h1 : M1.IsWhole) (M2 : Memref sig .tc .vmem S16x3x224x224 .f32) (h2 : M2.IsWhole)
    (f0 : Bf (F := F) c M0) (f1 : Bf (F := F) c M1) :
    M2.view.read (Elt F) (affRun c i M0 h0 M1 h1 M2 h2 f0 f1).1 = affBlock (M0.view.read (Elt F) f0) (M1.view.read (Elt F) f1) := by
  unfold affRun
  dsimp only
  rw [View.read_writes_junk_eq_canon]
  unfold affRun.sl.H2_1
  rw [View.canon_unit_zero zero4, View.readAt_eq_ld, View.ld_unit_zero zero4]
  unfold affBlock
  congr 1
  · exact congrArg (M0.view.read (Elt F) f0) (funext fun a => by match a with | ⟨0, _⟩ => rfl)
  · exact congrArg (M0.view.read (Elt F) f0) (funext fun a => by match a with | ⟨0, _⟩ => rfl)

omit [FloatOps F] in
/-- Owning a memref that is a whole buffer at `X`: the buffer at some contents that read `X`. -/
theorem owns_isWhole (c : Dev nD) {sp : Space} {S : Shape} {e : EltTy} (M : Memref sig .tc sp S e) (h : M.IsWhole) (X : S.Idx → Elt F e) :
    (owns (c : Thread nD τ) M fullShare X : sProp 𝕄) = iprop(∃ f : Bf (F := F) c M, ⌜M.view.read (Elt F) f = X⌝ ∗ pt c M f) := by
  obtain ⟨b, hsp, hsh, he, h⟩ := h
  subst hsp hsh he
  cases h
  unfold owns
  simp only [Memref.view_whole, View.set_whole]

/-! ## The region's proof data, at the contents `V` of every buffer when it is entered -/

section Region

variable (V : (c : Dev nD) → (b : Ref sig .tc) → Buf (Elt F) ((c : Thread nD τ).loc b))

/-- The block of window `w`'s array that grid point `t` works on. -/
abbrev blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The part of the state that the pipeline leaves alone. -/
abbrev Φ0 (c : Dev nD) : sProp 𝕄 := Pipeline.scopedRest (Ix := Unit) (Name := ℕ) (U := UU) (Lvl := ℕ) (Val := Elt F) spec0 c

/-- The arrays as the region finds them; after the body each input's block as fetched and the output's as computed. -/
def dat0 (c : Dev nD) : Dat τ (Elt F) Unit ℕ UU ℕ cfg0 c where
  A w := V c (Pipeline.arrRef spec0 w)
  after w t := match w with
    | ⟨0, _⟩ => blk0 V c 0 t
    | ⟨1, _⟩ => blk0 V c 1 t
    | ⟨2, _⟩ => affBlock (blk0 V c 0 t) (blk0 V c 1 t)
  Φ _ := Φ0 c
  q _ := fullShare
  owed _ := 0

theorem before0_0 (c : Dev nD) (t : Fin cfg0.N) (d) : (dat0 V c).before 0 t d = blk0 V c 0 t :=
  (dat0 V c).before_in_eq_fetched 0 rfl (fun _ => rfl) (fun _ _ _ => rfl) (fun _ => rfl) t d

theorem before0_1 (c : Dev nD) (t : Fin cfg0.N) (d) : (dat0 V c).before 1 t d = blk0 V c 1 t :=
  (dat0 V c).before_in_eq_fetched 1 rfl (fun _ => rfl) (fun _ _ _ => rfl) (fun _ => rfl) t d

theorem body0 (c : Dev nD) : BodyObligation (dat0 V c) (defs₀ (F := F)) Variants.none () Set.univ := fun t => by
  rw [bigSep_W0, bigSep_W0]
  rw [show (dat0 V c).Φ t.castSucc = Φ0 c from rfl, show (dat0 V c).Φ t.succ = Φ0 c from rfl,
    show (dat0 V c).owesAt () t.succ = (dat0 V c).owesAt () t.castSucc from rfl]
  have e0 : ∀ X, (owns (c : Thread nD τ) (st0_0 t) fullShare X : sProp 𝕄) = _ := owns_isWhole c (st0_0 t) (hstage0_0 _)
  have e1 : ∀ X, (owns (c : Thread nD τ) (st0_1 t) fullShare X : sProp 𝕄) = _ := owns_isWhole c (st0_1 t) (hstage0_1 _)
  have e2 : ∀ X, (owns (c : Thread nD τ) (st0_2 t) fullShare X : sProp 𝕄) = _ := owns_isWhole c (st0_2 t) (hstage0_2 _)
  simp only [e0, e1, e2]
  iintro ⟨HΦ, Howes, ⟨%d0, %f0, %hf0, H0⟩, ⟨%d1, %f1, %hf1, H1⟩, ⟨%d2, %f2, -, H2⟩⟩
  rw [before0_0] at hf0
  rw [before0_1] at hf1
  iapply ((affRun c (grid0.coords t) (st0_0 t) (hstage0_0 ((cfg0.slots t 0).cast nbuf0_0)) (st0_1 t) (hstage0_1 ((cfg0.slots t 1).cast nbuf0_1))
    (st0_2 t) (hstage0_2 ((cfg0.slots t 2).cast nbuf0_2)) f0 f1).2 f2 Set.univ _)
  isplitl [H0]; · iexact H0
  isplitl [H1]; · iexact H1
  isplitl [H2]; · iexact H2
  iintro ⟨H0, H1, H2⟩
  isplitl [HΦ]; · iexact HΦ
  isplitl [Howes]; · iexact Howes
  isplitl [H0]; · iexists f0; isplitr; swap; (· iexact H0); ipureintro; exact hf0
  isplitl [H1]; · iexists f1; isplitr; swap; (· iexact H1); ipureintro; exact hf1
  iexists _; isplitr; swap; (· iexact H2); ipureintro
  rw [affRun_read, hf0, hf1]
  rfl

/-- The whole result of the affine region, over the two coefficients and the image. -/
def affArr (s : Vec F S2 .f32) (x : Vec F S128x3x224x224 .f32) : Vec F S128x3x224x224 .f32 :=
  addf (mulf (broadcast S128x3x224x224 (s (word2 0))) x) (broadcast S128x3x224x224 (s (word2 1)))

theorem ix0_0 : ∀ t : Fin cfg0.N, win0_0.index t = ![0] := (by decide +kernel : ∀ t : Fin grid0.N, _)
theorem ix0_1 : ∀ t : Fin cfg0.N, win0_1.index t = win0_2.index t := (by decide +kernel : ∀ t : Fin grid0.N, _)

theorem blk0_0 (c : Dev nD) (t : Fin cfg0.N) (k : Fin 2) : blk0 V c 0 t (word2 k) = V c main_v104 (word2 k) := by
  blk_simp [blk0]
  congr 1
  blk_ext [ix0_0]

theorem blk0_1 (c : Dev nD) (t : Fin cfg0.N) (y : S16x3x224x224.Idx) :
    blk0 V c 1 t y = V c main_arg0 ((win0_2.blk t).view.emb y) := by
  blk_simp [blk0]
  congr 1
  blk_ext [ix0_1]

theorem arr0 (c : Dev nD) : (dat0 V c).arrAt 2 cfg0.N = affArr (V c main_v104) (V c main_arg0) := by
  refine (dat0 V c).arrAt_eq_of_covers 2 _ (by decide +kernel) fun t hf y => ?_
  blk_simp
  show affBlock (blk0 V c 0 t) (blk0 V c 1 t) y = _
  unfold affBlock
  rw [blk0_0, blk0_0]
  show FloatOps.addf (FloatOps.mulf _ (blk0 V c 1 t y)) _ = FloatOps.addf (FloatOps.mulf _ (V c main_arg0 _)) _
  rw [blk0_1]
  rfl

variable (adm : (p : Fin 2) → (pcfgs (F := F) p).Adm)

/-- Proof data for a pipeline that this entry does not run: anything. -/
def junkDat {cfg : Cfg sig Λ₀} (c : Dev nD) : Dat τ (Elt F) Unit ℕ UU ℕ cfg c where
  A _ := fun _ => Classical.arbitrary _
  after _ _ := fun _ => Classical.arbitrary _
  Φ _ := BI.emp
  q _ := fullShare
  owed _ := 0

/-- The proof data of every pipeline, for an entry of the affine region. -/
def pdats0 : (p : Fin 2) → (c : Dev nD) → Dat τ (Elt F) Unit ℕ UU ℕ (Pipeline.pin (pcfgs (F := F)) adm p) c
  | ⟨0, _⟩ => fun c => dat0 V c
  | ⟨1, _⟩ => fun c => junkDat c

/-- No core owes another anything: no level is assigned. -/
abbrev L : GSem nD τ sig → Finset Unit := fun _ => ∅
abbrev lv : GSem nD τ sig → Unit → ℕ := fun _ _ => 0

variable (Vp : (c : Dev nD) → (b : Ref sig .tc) → Buf (Elt F) ((c : Thread nD τ).loc b))

set_option backward.isDefEq.respectTransparency.types false in
/-- The affine region over the thread state "every unscoped buffer at `V c`, and the core's `owes`": it is left with the
    buffers at any `Vp` that has the result array at what the region computes and agrees with `V` elsewhere. -/
def reg0 (hVp_out : ∀ c, Vp c main_case0b0_v109 = affArr (V c main_v104) (V c main_arg0))
    (hVp_ne : ∀ c (b : Ref sig .tc), b ≠ main_case0b0_v109 → Vp c b = V c b) :
    Pipeline.RegionSeg (pcfgs (F := F)) adm (pdats0 V adm) () defs₀ Variants.none L lv 0 where
  win := launch0.win.to₀
  block_pos := launch0.block_pos
  stage_whole := launch0.stage_whole
  K := PEmpty
  osem k := k.elim
  ho := Pipeline.OwnSemFacts.none _
  hbody c := (body0 V c).loose
  hwaits := Pipeline.hwaits_of_owed_zero _ _ _ _ L lv 0 fun _ _ => rfl
  pre c := iprop(unscopedBufs c (V c) ∗ ∃ W, owes (c : Thread nD τ) (0 : CellTallies nD τ sig Unit) W)
  post c := iprop(unscopedBufs c (Vp c) ∗ ∃ W, owes (c : Thread nD τ) (0 : CellTallies nD τ sig Unit) W)
  X _ := BI.emp
  Y _ := BI.emp
  Z c := Pipeline.unscopedRest (Ix := Unit) (Name := ℕ) (U := UU) (Lvl := ℕ) spec0 c (V c)
  hentry c := by
    rw [Pipeline.ownSems0_none]
    have hsplit := Pipeline.arrays_of_unscopedBufs (p := 0) (pcfgs (F := F)) adm (pdats0 V adm) launch0.win launch0.arr_whole c
      ((pdats0 V adm 0 c).share_full fun _ => rfl) (V c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (pdats0 V adm 0 c).Φ 0 = Φ0 c from rfl]
    iintro ⟨-, -, Hr⟩; iexact Hr
  hout c := by
    rw [Pipeline.ownSems0_none, show (pdats0 V adm 0 c).Φ (Fin.last _) = Φ0 c from rfl]
    iintro Hr
    isplitr; · iempintro
    isplitr; · iempintro
    iexact Hr
  hexit c := by
    have hjoin := Pipeline.unscopedBufs_of_arrays (p := 0) (pcfgs (F := F)) adm (Ix := Unit) (Name := ℕ) (U := UU) (Lvl := ℕ) launch0.win launch0.arr_whole c
      (pdats0 V adm) ((pdats0 V adm 0 c).share_full fun _ => rfl) (V c) (Vp c) ((pdats0 V adm 0 c).arrAt · cfg0.N)
      (fun w => by
        fin_cases w
        · exact ((pdats0 V adm 0 c).arrAt_in 0 rfl _).trans (hVp_ne c main_v104 (by decide)).symm
        · exact ((pdats0 V adm 0 c).arrAt_in 1 rfl _).trans (hVp_ne c main_arg0 (by decide)).symm
        · exact (arr0 V c).trans (hVp_out c).symm)
      (fun b hb => hVp_ne c b fun h => hb (h ▸ Finset.mem_image.mpr ⟨2, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

end Region
end Cert.Proof.KI

end
-- ==== Proof.Launch.lean ====
/- The kernel program's launch: the host operations, the read of the dispatch word, the region that the word names, and the copy
   of its result, as one host segment of the launch theorem. -/
module

public import proofs.«01_k».proof.Proof.General
public import Idealize.ShloMosaic.Lib.Pipeline.Regions

@[expose] public section

noncomputable section

namespace Cert.Proof.KI

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.StableHlo (held after)

variable {F : FTy → Type} [FloatOps F]

local notation "𝕄" => MT nD τ sig Unit (Elt F) ℕ UU ℕ

/-! ## The operations before the branch, as one list -/

/-- The printed stretches of operations. -/
abbrev stretches : List (List (HloOp τ sig (Elt F))) :=
  [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24]

/-- Every operation before the branch. -/
abbrev hostAll : List (HloOp τ sig (Elt F)) := stretches.flatten

/-- The TensorCore's unscoped references, as device buffers: what a host operation can name. -/
def ucRefs : Finset (DevRef τ sig) := (StableHlo.tcRefs τ sig).filter fun b => ¬ b.isScoped

omit [FloatOps F] in
theorem unscoped_eq_held (c : Dev nD) (W : Valuation τ sig (Elt F)) :
    (unscopedBufs c (fun b => W b) : sProp 𝕄) = held (c : Thread nD τ) ucRefs W := by
  unfold unscopedBufs held ucRefs StableHlo.tcRefs
  rw [Finset.filter_map, bigSep_map]
  rfl

omit [FloatOps F] in
theorem in_ucRefs (op : HloOp τ sig (Elt F)) (h : op.bufs ⊆ StableHlo.tcRefs τ sig) : op.bufs ⊆ ucRefs := fun b hb =>
  Finset.mem_filter.mpr ⟨h hb, fun h' => Bool.false_ne_true ((op.no_scoped b hb).symm.trans h')⟩

/-- A property of every operation of every stretch, operation by operation. -/
theorem hostAll_forall {P : HloOp τ sig (Elt F) → Prop} (h : (stretches (F := F)).Forall fun l => l.Forall P) : ∀ op ∈ hostAll (F := F), P op := by
  intro op hop
  obtain ⟨l, hl, hop⟩ := List.mem_flatten.mp hop
  exact List.forall_iff_forall_mem.mp (List.forall_iff_forall_mem.mp h l hl) op hop

theorem hostAll_sub : ∀ op ∈ hostAll (F := F), op.bufs ⊆ ucRefs := fun op h => in_ucRefs op (hostAll_forall
  (P := fun op => op.bufs ⊆ StableHlo.tcRefs τ sig)
  ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub, hostOps0_14_sub, hostOps0_15_sub, hostOps0_16_sub, hostOps0_17_sub, hostOps0_18_sub, hostOps0_19_sub, hostOps0_20_sub, hostOps0_21_sub, hostOps0_22_sub, hostOps0_23_sub, hostOps0_24_sub⟩ op h)

theorem hostAll_fresh : ∀ op ∈ hostAll (F := F), op.fresh = ∅ := hostAll_forall (by
  simp only [stretches, List.Forall]
  and_intros <;> rfl)

/-- No operation before the branch writes an argument. -/
theorem hostAll_args (b : Ref sig .tc) (hb : b = main_arg0 ∨ b = main_arg1 ∨ b = main_arg2) :
    ∀ op ∈ hostAll (F := F), Proc.devRef .tc b ∉ op.writes := by
  have h : ((hostAll (F := F)).all fun op => decide (Proc.devRef .tc main_arg0 ∉ op.writes) && decide (Proc.devRef .tc main_arg1 ∉ op.writes)
      && decide (Proc.devRef .tc main_arg2 ∉ op.writes)) = true := by rfl
  intro op hop
  have h := List.all_eq_true.mp h op hop
  simp only [Bool.and_eq_true, decide_eq_true_eq] at h
  rcases hb with rfl | rfl | rfl
  · exact h.1.1
  · exact h.1.2
  · exact h.2

/-! ## The branch -/

/-- The read of the dispatch word. -/
abbrev rdOp : HloOp τ sig (Elt F) :=
  StableHlo.unary main_v106 main_v107 ((extui 32 · natLt_1_32) : (⟨S_, .i1⟩ : BufTy).Contents (Elt F) → (⟨S_, .i32⟩ : BufTy).Contents (Elt F))

/-- The copy of each region's result into the branch's. -/
abbrev cpOp0 : HloOp τ sig (Elt F) := StableHlo.unary main_case0b0_v109 main_v108 id
abbrev cpOp1 : HloOp τ sig (Elt F) := StableHlo.unary main_case0b1_v109 main_v108 id

abbrev TProg : Type 1 := Prog (TpuEff nD τ sig (Elt F) (Pipeline.Sig Λ₀ (Fin 2) fun p => (pcfgs (F := F) p).Adm) .tc) PUnit

/-- The arms as printed. -/
abbrev armProg : Fin 2 → TProg (F := F)
  | 0 => do
      Prog.lift (.customCall (Pipeline.entry 0) ())
      hlo rfl (StableHlo.unary main_case0b0_v109 main_v108 id) (fun _ => .ret ⟨⟩)
      pure ⟨⟩
  | 1 => do
      Prog.lift (.customCall (Pipeline.entry 1) ())
      hlo rfl (StableHlo.unary main_case0b1_v109 main_v108 id) (fun _ => .ret ⟨⟩)
      pure ⟨⟩
  | ⟨_ + 2, h⟩ => absurd h (Nat.not_lt.2 (Nat.le_add_left _ _))

/-- The branch as printed: the read and the arm that the word names. -/
abbrev tail : TProg (F := F) := do
  let x_v107 ← hlo rfl (rdOp (F := F)) (HostLoop.elt main_v107)
  HostLoop.case 2 x_v107 armProg

omit [FloatOps F] in
/-- A chain of stretches and a last fragment: the stretches' operations as one list, then the fragment. -/
theorem chain_seqs (ls : List (List (HloOp τ sig (Elt F)))) (q : TProg (F := F)) :
    Pipeline.chain (ls.map StableHlo.seq ++ [q]) = StableHlo.seq ls.flatten >>= fun _ => q := by
  induction ls with
  | nil =>
    rw [List.map_nil, List.nil_append, Pipeline.chain_cons, Pipeline.chain_nil, List.flatten_nil]
    show (q >>= fun u => Pure.pure u) = _
    rw [bind_pure]; rfl
  | cons l ls ih =>
    rw [List.map_cons, List.cons_append, Pipeline.chain_cons, ih, List.flatten_cons, StableHlo.seq_append, bind_assoc]

/-- @main is the operations and the branch. -/
theorem main_eq (c : Dev nD) : main (F := F) c = (StableHlo.seq hostAll >>= fun _ => tail) :=
  (main_chain c).trans (chain_seqs stretches tail)

section Fold

variable (V : Dev nD → Valuation τ sig (Elt F))

/-- Every buffer's contents after the read, and the dispatch word. -/
abbrev V1 (c : Dev nD) : Valuation τ sig (Elt F) := after [rdOp] (V c)
abbrev word (c : Dev nD) : BitVec 32 := V1 V c main_v107 HostLoop.idx0

/-- After each region: its result array at what it computes. -/
def Vr0 (c : Dev nD) : Valuation τ sig (Elt F) :=
  Function.update (V1 V c) (Proc.devRef .tc main_case0b0_v109) (affArr (V1 V c main_v104) (V1 V c main_arg0))
def Vr1 (c : Dev nD) : Valuation τ sig (Elt F) :=
  Function.update (V1 V c) (Proc.devRef .tc main_case0b1_v109)
    (layersVec (V1 V c main_v65) (V1 V c main_v66) (V1 V c main_v67) (V1 V c main_v70) (V1 V c main_arg0))

/-- After the arm `i`. -/
def Ve (i : Fin 2) (c : Dev nD) : Valuation τ sig (Elt F) :=
  match i with
  | 0 => after [cpOp0] (Vr0 V c)
  | 1 => after [cpOp1] (Vr1 V c)

end Fold

/-! ## The segment -/

abbrev 𝒱₀ : Variants := Variants.none
/-- The prefetched tables' admissible contents: no table. -/
abbrev adm : (p : Fin 2) → (pcfgs (F := F) p).Adm := fun p => (cfgs p).toPCfg_adm
/-- The copy of the pipeline library's algebra that the launch theorem uses, and the one that the branch carries. -/
abbrev EP : Emb (UR sig nD τ) 𝕄 := embAt (0 : Fin 2)
abbrev EB : Emb (UR sig nD τ) 𝕄 := embAt (1 : Fin 2)

/-- The branch's own ghost state: every pipeline's, so that either arm can enter its region. -/
abbrev ghostB (c : Dev nD) : sProp 𝕄 :=
  iprop((bigSep Finset.univ fun p => Pipeline.cellsGhost (Pipeline.pin (pcfgs (F := F)) adm) EB p c)
    ∗ (bigSep Finset.univ fun p => Pipeline.toksInit (Pipeline.pin (pcfgs (F := F)) adm) EB p c))

abbrev R (c : Dev nD) : sProp 𝕄 := iprop(∃ W, owes (c : Thread nD τ) (0 : CellTallies nD τ sig Unit) W)

variable (V : Dev nD → Valuation τ sig (Elt F))

/-- The region of each arm, entered at `V1` and left at its `Vr`. -/
def rg0 := reg0 (fun c b => V1 V c b) adm (fun c b => Vr0 V c b) (fun c => Function.update_self ..)
  (fun c b hb => Function.update_of_ne (StableHlo.devRef_ne_of_ne hb) ..)
def rg1 := reg1 (fun c b => V1 V c b) adm (fun c b => Vr1 V c b) (fun c => Function.update_self ..)
  (fun c b hb => Function.update_of_ne (StableHlo.devRef_ne_of_ne hb) ..)

abbrev Kt {β : Type} (c : Dev nD) (p : Prog (TpuEff nD τ sig (Elt F) (Pipeline.Sig Λ₀ (Fin 2) fun p => (pcfgs (F := F) p).Adm) .tc) β) (K : β → sProp 𝕄) : sProp 𝕄 :=
  wp frame (wpE (Pipeline.defs (pcfgs (F := F)) defs₀) (Variants.lift 𝒱₀) (c : Thread nD τ) none) Set.univ p K

set_option backward.isDefEq.respectTransparency.types false in
/-- An arm: its region, then the copy of the region's result. -/
theorem arm_run (i : Fin 2) (c : Dev nD) {β : Type} (k : PUnit → Prog (TpuEff nD τ sig (Elt F) (Pipeline.Sig Λ₀ (Fin 2) fun p => (pcfgs (F := F) p).Adm) .tc) β) (K : β → sProp 𝕄) :
    iprop((iprop(boundary (c : Thread nD τ) ∗ held (c : Thread nD τ) ucRefs (Ve V i c) ∗ R c) -∗ Kt c (k ⟨⟩) K)
        ∗ boundary (c : Thread nD τ) ∗ held (c : Thread nD τ) ucRefs (V1 V c) ∗ R c ∗ ghostB c ∗ levAts L lv)
      ⊢ Kt c (armProg i >>= k) K := by
  unfold Kt
  match i with
  | 0 =>
    unfold ghostB
    rw [bigSep_univ_two, bigSep_univ_two]
    iintro ⟨Hk, Hb, Hh, HR, ⟨Hg, Ht⟩, Hl⟩
    icases Hg with ⟨Hg, -⟩
    icases Ht with ⟨Ht, -⟩
    iapply (Pipeline.RegionSeg.wp (pcfgs (F := F)) adm (pdats0 (fun c b => V1 V c b) adm) () cellOf_inj EB defs₀ 𝒱₀ L lv (rg0 V) c none (fun _ h => nomatch h)
      (fun _ => hlo rfl (cpOp0 (F := F)) (fun _ => .ret (⟨⟩ : PUnit)) >>= fun _ => k ⟨⟩) K)
    isplitl [Hk]
    · iintro ⟨Hb, Hp⟩
      ihave Hp := (Entails.of_eq (show (rg0 V).post c = iprop(held (c : Thread nD τ) ucRefs (Vr0 V c) ∗ R c) from
        congrArg (fun P => iprop(P ∗ R c)) (unscoped_eq_held c (Vr0 V c)))) $$ Hp
      icases Hp with ⟨Hh, HR⟩
      rw [wp_bind]
      iapply (StableHlo.wp_hlo_within (Variants.lift 𝒱₀) (c : Thread nD τ) none Set.univ (in_ucRefs _ (StableHlo.unary_bufs_sub ..))) $$ [Hb Hh]
      · isplitl [Hb]; · iexact Hb
        iexact Hh
      iintro ⟨Hb, Hh⟩
      rw [wp_ret]; imodintro
      iapply Hk
      isplitl [Hb]; · iexact Hb
      isplitl [Hh]; · unfold Ve; dsimp only; rw [StableHlo.after_cons, StableHlo.after_nil]; iexact Hh
      iexact HR
    isplitl [Hb]; · iexact Hb
    isplitl [Hh HR]
    · rw [show (rg0 V).pre c = iprop(unscopedBufs c (fun b => V1 V c b) ∗ R c) from rfl, unscoped_eq_held]
      isplitl [Hh]; · iexact Hh
      iexact HR
    isplitl [Hl]; · iexact Hl
    isplitl [Hg]; · iexact Hg
    iexact Ht
  | 1 =>
    unfold ghostB
    rw [bigSep_univ_two, bigSep_univ_two]
    iintro ⟨Hk, Hb, Hh, HR, ⟨Hg, Ht⟩, Hl⟩
    icases Hg with ⟨-, Hg⟩
    icases Ht with ⟨-, Ht⟩
    iapply (Pipeline.RegionSeg.wp (pcfgs (F := F)) adm (pdats1 (fun c b => V1 V c b) adm) () cellOf_inj EB defs₀ 𝒱₀ L lv (rg1 V) c none (fun _ h => nomatch h)
      (fun _ => hlo rfl (cpOp1 (F := F)) (fun _ => .ret (⟨⟩ : PUnit)) >>= fun _ => k ⟨⟩) K)
    isplitl [Hk]
    · iintro ⟨Hb, Hp⟩
      ihave Hp := (Entails.of_eq (show (rg1 V).post c = iprop(held (c : Thread nD τ) ucRefs (Vr1 V c) ∗ R c) from
        congrArg (fun P => iprop(P ∗ R c)) (unscoped_eq_held c (Vr1 V c)))) $$ Hp
      icases Hp with ⟨Hh, HR⟩
      rw [wp_bind]
      iapply (StableHlo.wp_hlo_within (Variants.lift 𝒱₀) (c : Thread nD τ) none Set.univ (in_ucRefs _ (StableHlo.unary_bufs_sub ..))) $$ [Hb Hh]
      · isplitl [Hb]; · iexact Hb
        iexact Hh
      iintro ⟨Hb, Hh⟩
      rw [wp_ret]; imodintro
      iapply Hk
      isplitl [Hb]; · iexact Hb
      isplitl [Hh]; · unfold Ve; dsimp only; rw [StableHlo.after_cons, StableHlo.after_nil]; iexact Hh
      iexact HR
    isplitl [Hb]; · iexact Hb
    isplitl [Hh HR]
    · rw [show (rg1 V).pre c = iprop(unscopedBufs c (fun b => V1 V c b) ∗ R c) from rfl, unscoped_eq_held]
      isplitl [Hh]; · iexact Hh
      iexact HR
    isplitl [Hl]; · iexact Hl
    isplitl [Hg]; · iexact Hg
    iexact Ht

/-- The contents at the end, from the contents before the branch. -/
def Vn (c : Dev nD) : Valuation τ sig (Elt F) := Ve V (HostLoop.branch (word V c) 1) c

set_option backward.isDefEq.respectTransparency.types false in
/-- The branch: the read, then the arm that the word names. -/
theorem tail_run (c : Dev nD) {β : Type} (k : PUnit → Prog (TpuEff nD τ sig (Elt F) (Pipeline.Sig Λ₀ (Fin 2) fun p => (pcfgs (F := F) p).Adm) .tc) β) (K : β → sProp 𝕄) :
    iprop((iprop(boundary (c : Thread nD τ) ∗ held (c : Thread nD τ) ucRefs (Vn V c) ∗ R c) -∗ Kt c (k ⟨⟩) K)
        ∗ boundary (c : Thread nD τ) ∗ held (c : Thread nD τ) ucRefs (V c) ∗ R c ∗ ghostB c ∗ levAts L lv)
      ⊢ Kt c (tail >>= k) K := by
  unfold Kt tail
  iintro ⟨Hk, Hb, Hh, HR, Hg, Hl⟩
  rw [bind_assoc, wp_bind]
  iapply (StableHlo.wp_hlo_within (Variants.lift 𝒱₀) (c : Thread nD τ) none Set.univ (in_ucRefs _ (StableHlo.unary_bufs_sub ..))) $$ [Hb Hh]
  · isplitl [Hb]; · iexact Hb
    iexact Hh
  iintro ⟨Hb, Hh⟩
  rw [HostLoop.elt_apply, wp_ret]; imodintro
  rw [HostLoop.case_succ]
  iapply (arm_run V (HostLoop.branch (word V c) 1) c k K)
  isplitl [Hk]; · iexact Hk
  isplitl [Hb]; · iexact Hb
  isplitl [Hh]; · unfold V1; rw [StableHlo.after_cons, StableHlo.after_nil]; iexact Hh
  isplitl [HR]; · iexact HR
  isplitl [Hg]; · iexact Hg
  iexact Hl

/-! ## The launch -/

variable (m : (ℓ : Loc nD τ sig) → Buf (Elt F) ℓ) (ρ : Dev nD → PrngReg)

/-- Core `c`'s buffers at launch, before the branch, and at the end. -/
abbrev V₀ (c : Dev nD) : Valuation τ sig (Elt F) := StableHlo.launchContents m c
abbrev Vb (c : Dev nD) : Valuation τ sig (Elt F) := after hostAll (V₀ m c)
abbrev Vf (c : Dev nD) : Valuation τ sig (Elt F) := Vn (Vb m) c

set_option backward.isDefEq.respectTransparency.types false in
/-- @main as one segment of the launch theorem. -/
def seg : Pipeline.HostSeg (Ix := Unit) (Name := ℕ) (U := UU) (Lvl := ℕ) (pcfgs (F := F)) defs₀ 𝒱₀ L lv where
  prog := StableHlo.seq hostAll >>= fun _ => tail
  pre c := iprop(held (c : Thread nD τ) ucRefs (V₀ m c) ∗ R c ∗ ghostB c)
  post c := iprop(held (c : Thread nD τ) ucRefs (Vf m c) ∗ R c)
  run c {β} k K := by
    rw [bind_assoc]
    iintro ⟨Hk, Hb, ⟨Hh, HR, Hg⟩, Hl⟩
    iapply (StableHlo.wp_seq (Variants.lift 𝒱₀) none Set.univ c ucRefs (fun _ => tail >>= k) hostAll hostAll_sub hostAll_fresh (V₀ m c)) $$ [Hb Hh]
    · isplitl [Hb]; · iexact Hb
      iexact Hh
    iintro ⟨Hb, Hh⟩
    iapply (tail_run (Vb m) c k K)
    isplitl [Hk]; · iexact Hk
    isplitl [Hb]; · iexact Hb
    isplitl [Hh]; · iexact Hh
    isplitl [HR]; · iexact HR
    isplitl [Hg]; · iexact Hg
    iexact Hl

abbrev segs : List (Pipeline.Seg (pcfgs (F := F)) adm (pdats0 (fun c b => V₀ m c b) adm) () defs₀ 𝒱₀ L lv) := [.host (seg m)]

/-- Run as that one segment, @main is itself. -/
theorem run_segs (c : Dev nD) : Pipeline.Seg.run (segs m) = main (F := F) c := by
  rw [main_eq]; exact bind_pure _

/-- The launch element: the pipeline library's, twice. -/
def u₀ : UU := (fun _ => initOf (Pipeline.cells cfgs cellOf_inj) (Pipeline.launchToks cfgs cellOf_inj), 1)

set_option backward.isDefEq.respectTransparency.types false in
/-- The launch element pays for both copies. -/
theorem fund : (ownU u₀ : sProp 𝕄)
    ⊢ |={Set.univ}=> iprop(BI.own (EP (F := F) (initOf (Pipeline.cells (Pipeline.pin (pcfgs (F := F)) adm) cellOf_inj) (Pipeline.launchToks (Pipeline.pin (pcfgs (F := F)) adm) cellOf_inj)))
        ∗ bigSep Finset.univ fun c => ghostB (F := F) c) := by
  unfold u₀
  iintro Hu
  ihave H := (ownU_pair _ _) $$ Hu
  icases H with ⟨HP, -⟩
  ihave H := ((own_iprod _).trans (Entails.of_eq (bigSep_univ_two _))) $$ HP
  icases H with ⟨H0, H1⟩
  imod (Pipeline.fund_ghost (Pipeline.pin (pcfgs (F := F)) adm) (EB (F := F)) cellOf_inj) $$ H1 with ⟨Hg, Ht⟩
  imodintro
  isplitl [H0]; · iexact H0
  rw [bigSep_sep']
  isplitl [Hg]; · iexact Hg
  iexact Ht

set_option backward.isDefEq.respectTransparency.types false in
/-- From any memory with zero counters: every weakly fair execution of @main terminates, and every final state has each
    unscoped buffer at `Vf` and every counter at zero. -/
theorem run_main : θ_run defs (onTc (τ := τ) (main (F := F))) ⟨m, fun _ => 0, ρ⟩
    (fun r => (∀ (c : Dev nD) (b : Ref sig .tc), b.isScoped = false → r.2.mem ((c : Thread nD τ).loc b) = Vf m c b) ∧ r.2.sem = fun _ => 0) :=
  Pipeline.θ_run_regions_kit_sems (pcfgs (F := F)) adm (pdats0 (fun c b => V₀ m c b) adm) () cellOf_inj EP defs₀ 𝒱₀ L lv m ρ main (segs m)
    (fun c Q => by rw [run_segs m c])
    (by simp only [Pipeline.Seg.pipes_host, Pipeline.Seg.pipes_nil]; decide) (O₀ := 0) (hL := fun _ _ => rfl) (G := fun c => ghostB c) (u₀ := u₀)
    (hu₀ := fund)
    (T₀ := fun c => iprop(held (c : Thread nD τ) ucRefs (V₀ m c) ∗ R c ∗ ghostB c)) (Tₙ := fun c => held (c : Thread nD τ) ucRefs (Vf m c))
    (hch := ⟨fun _ => .rfl, fun _ => .rfl⟩)
    (hinit := by
      refine Pipeline.initEach L lv fun c => ?_
      rw [show unscopedBufs c (fun b => m ((c : Thread nD τ).loc b)) = held (c : Thread nD τ) ucRefs (V₀ m c) from unscoped_eq_held c (V₀ m c)]
      iintro ⟨⟨Hh, -, HO, -, -, Hg⟩, -⟩
      imodintro
      isplitl [Hh]; · iexact Hh
      isplitl [HO]; · iexists ∅; iexact HO
      iexact Hg)
    (QY := fun c s => ∀ b : Ref sig .tc, b.isScoped = false → s.mem ((c : Thread nD τ).loc b) = Vf m c b)
    (hfin := fun c s' => by
      unfold held
      iintro ⟨H, HSI⟩
      ihave %h := (SI_pointsTo_bufs_agree (qs := fun _ => fullShare) ucRefs) $$ [HSI H]
      · isplitl [HSI]; · iexact HSI
        iexact H
      imodintro
      isplitr; swap
      · iexact HSI
      ipureintro
      exact fun b hb => h _ (Finset.mem_filter.mpr ⟨StableHlo.devRef_mem_tcRefs b, fun h' => Bool.false_ne_true (hb.symm.trans h')⟩))
    (hQ := fun _ h hz => ⟨h, funext fun g => hz g (.inr (by revert g; decide))⟩)

/-- The arguments end as launched. -/
theorem Vf_arg (c : Dev nD) (b : Ref sig .tc) (hb : b = main_arg0 ∨ b = main_arg1 ∨ b = main_arg2) : Vf m c b = m ((c : Thread nD τ).loc b) := by
  have h0 : Vb m c b = m ((c : Thread nD τ).loc b) := StableHlo.after_of_forall_not_mem hostAll (V₀ m c) (hostAll_args b hb)
  have hr : Proc.devRef .tc b ∉ (rdOp (F := F)).writes := by rcases hb with rfl | rfl | rfl <;> exact of_decide_eq_true rfl
  have h1 : V1 (Vb m) c b = m ((c : Thread nD τ).loc b) :=
    (StableHlo.after_of_forall_not_mem [rdOp] (Vb m c) (by intro op h; rw [List.mem_singleton.mp h]; exact hr)).trans h0
  unfold Vf Vn
  generalize HostLoop.branch (word (Vb m) c) 1 = i
  match i with
  | 0 =>
    have hc : Proc.devRef .tc b ∉ (cpOp0 (F := F)).writes := by rcases hb with rfl | rfl | rfl <;> exact of_decide_eq_true rfl
    exact (StableHlo.after_of_forall_not_mem [cpOp0] (Vr0 (Vb m) c) (by intro op h; rw [List.mem_singleton.mp h]; exact hc)).trans
      ((Function.update_of_ne (StableHlo.devRef_ne_of_ne (by rcases hb with rfl | rfl | rfl <;> decide)) ..).trans h1)
  | 1 =>
    have hc : Proc.devRef .tc b ∉ (cpOp1 (F := F)).writes := by rcases hb with rfl | rfl | rfl <;> exact of_decide_eq_true rfl
    exact (StableHlo.after_of_forall_not_mem [cpOp1] (Vr1 (Vb m) c) (by intro op h; rw [List.mem_singleton.mp h]; exact hc)).trans
      ((Function.update_of_ne (StableHlo.devRef_ne_of_ne (by rcases hb with rfl | rfl | rfl <;> decide)) ..).trans h1)

/-- The frame: the run ends with the arguments as launched and every counter at zero. -/
theorem run_frame : θ_run defs (onTc (τ := τ) (main (F := F))) ⟨m, fun _ => 0, ρ⟩
    (fun r => (∀ c : Dev nD, r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)) ∧ r.2.sem = fun _ => 0) :=
  (θ_run defs _ _).mono (fun _ h => ⟨fun c => ⟨(h.1 c main_arg0 rfl).trans (Vf_arg m c _ (.inl rfl)), (h.1 c main_arg1 rfl).trans (Vf_arg m c _ (.inr (.inl rfl))),
    (h.1 c main_arg2 rfl).trans (Vf_arg m c _ (.inr (.inr rfl)))⟩, h.2⟩) (run_main m ρ)

end Cert.Proof.KI

end
-- ==== Proof.R.Read.lean ====
/- Host programs of the reference, read as lists of operations: a program that starts with a list of operations, one that then
   branches on an element, and what such a program does to the buffers. -/
module

public import proofs.«01_k».proof.Proof.Gen.ReferenceIdeal
public import Idealize.ShloMosaic.Lib.Pipeline.Regions
public import Idealize.ShloMosaic.Lib.StableHlo.RunRead
public import Idealize.ShloMosaic.Lib.HostLoop.Rules
public import Idealize.ShloMosaic.Lib.Quiescent

@[expose] public section

noncomputable section

namespace Cert.Proof.R

open Cert.ReferenceIdeal

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held after tcRefs)

variable {F : FTy → Type} [FloatOps F]

/-- A program of the reference's TensorCore. -/
abbrev TProg : Type 1 := Prog (TpuEff nD τ sig (Elt F) (Pipeline.Sig Λ₀ (Fin 0) fun p => (pcfgs (F := F) p).Adm) .tc) PUnit

/-- The program `p` is the operations `ops`, each on the TensorCore's buffers and with its result determined, and then `q`. -/
structure Reads (p : TProg (F := F)) (ops : List (HloOp τ sig (Elt F))) (q : TProg (F := F)) : Prop where
  eq : p = (StableHlo.seq ops >>= fun _ => q)
  sub : ∀ op ∈ ops, op.bufs ⊆ tcRefs τ sig
  fresh : ∀ op ∈ ops, op.fresh = ∅

namespace Reads

variable {p k q r : TProg (F := F)} {ops : List (HloOp τ sig (Elt F))} {op : HloOp τ sig (Elt F)}

omit [FloatOps F] in
theorem stop : Reads q [] q := ⟨rfl, fun _ h => (nomatch h), fun _ h => (nomatch h)⟩

omit [FloatOps F] in
theorem hlo (hb : op.bufs ⊆ tcRefs τ sig) (hf : op.fresh = ∅) (h : Reads k ops q) :
    Reads ((Idealize.ShloMosaic.hlo rfl op fun _ => .ret (⟨⟩ : PUnit)) >>= fun _ => k) (op :: ops) q where
  eq := by rw [h.eq]; rfl
  sub := fun o ho => (List.mem_cons.mp ho).elim (fun e => e ▸ hb) (h.sub o)
  fresh := fun o ho => (List.mem_cons.mp ho).elim (fun e => e ▸ hf) (h.fresh o)

omit [FloatOps F] in
theorem assoc {a b c : TProg (F := F)} (h : Reads (a >>= fun _ => b >>= fun _ => c) ops q) :
    Reads ((a >>= fun _ => b) >>= fun _ => c) ops q := by rw [bind_assoc]; exact h

omit [FloatOps F] in
theorem ret (h : Reads k ops q) : Reads ((pure (⟨⟩ : PUnit) : TProg (F := F)) >>= fun _ => k) ops q := h

end Reads

/-! ## What a program does to the buffers -/

local notation "𝕄" => MT nD τ sig Unit (Elt F) ℕ (Option PUnit) Unit

/-- From any contents `V` of the TensorCore's buffers, `p` ends with them at `f V`. -/
def Runs (p : TProg (F := F)) (f : Valuation τ sig (Elt F) → Valuation τ sig (Elt F)) : Prop :=
  ∀ (c : Dev nD) (V : Valuation τ sig (Elt F)) {β : Type} (k : PUnit → Prog (TpuEff nD τ sig (Elt F) (Pipeline.Sig Λ₀ (Fin 0) fun p => (pcfgs (F := F) p).Adm) .tc) β)
    (K : β → sProp 𝕄),
    iprop((iprop(boundary (c : Thread nD τ) ∗ held (c : Thread nD τ) (tcRefs τ sig) (f V))
          -∗ wp frame (wpE defs Variants.none (c : Thread nD τ) none) Set.univ (k ⟨⟩) K)
        ∗ boundary (c : Thread nD τ) ∗ held (c : Thread nD τ) (tcRefs τ sig) V)
      ⊢ wp frame (wpE defs Variants.none (c : Thread nD τ) none) Set.univ (p >>= k) K

theorem Runs.done : Runs (F := F) (pure ⟨⟩) id := by
  intro c V β k K
  rw [pure_bind]
  iintro ⟨Hk, H⟩
  iapply Hk; iexact H

/-- A list of operations, then the rest. -/
theorem Runs.list {p q : TProg (F := F)} {ops : List (HloOp τ sig (Elt F))} (h : Reads p ops q)
    {f : Valuation τ sig (Elt F) → Valuation τ sig (Elt F)} (hq : Runs q f) : Runs p fun V => f (after ops V) := by
  intro c V β k K
  rw [h.eq, bind_assoc]
  iintro ⟨Hk, H⟩
  iapply (StableHlo.wp_seq Variants.none none Set.univ c (tcRefs τ sig) (fun _ => q >>= k) ops h.sub h.fresh V) $$ H
  iintro H
  iapply (hq c (after ops V) k K)
  isplitl [Hk]; · iexact Hk
  iexact H

/-- One program and then another. -/
theorem Runs.bind {p q : TProg (F := F)} {f g : Valuation τ sig (Elt F) → Valuation τ sig (Elt F)} (hp : Runs p f) (hq : Runs q g) :
    Runs (p >>= fun _ => q) fun V => g (f V) := by
  intro c V β k K
  rw [bind_assoc]
  iintro ⟨Hk, H⟩
  iapply (hp c V (fun _ => q >>= k) K)
  isplitl [Hk]
  · iintro H
    iapply (hq c (f V) k K)
    isplitl [Hk]; · iexact Hk
    iexact H
  iexact H

omit [FloatOps F] in
/-- The element of the buffer `r`, a 32-bit integer. -/
abbrev elemOf (r : Ref sig .tc) (hr : r.ty = ⟨⟨0, ![]⟩, .i32⟩) (V : Valuation τ sig (Elt F)) : BitVec 32 :=
  cast (congrArg (BufTy.Contents (Elt F)) hr) (V r) HostLoop.idx0

set_option backward.isDefEq.respectTransparency.types false in
/-- An operation whose result's element chooses among sixteen programs, and then the rest. -/
theorem Runs.case {a b d r : Ref sig .tc} {fn : a.ty.Contents (Elt F) → b.ty.Contents (Elt F) → d.ty.Contents (Elt F) → r.ty.Contents (Elt F)}
    {ha hb hd hy} (hr : r.ty = ⟨⟨0, ![]⟩, .i32⟩) {arms : Fin 16 → TProg (F := F)} {q : TProg (F := F)}
    {fa : Fin 16 → Valuation τ sig (Elt F) → Valuation τ sig (Elt F)} (harm : ∀ i, Runs (arms i) (fa i))
    {g : Valuation τ sig (Elt F) → Valuation τ sig (Elt F)} (hq : Runs q g) :
    Runs (hlo rfl (StableHlo.ternary a b d r fn ha hb hd hy) (HostLoop.elt r hr) >>= fun v => (HostLoop.case 16 v arms >>= fun _ => q)) fun V =>
      g (fa (HostLoop.branch (elemOf r hr (after [StableHlo.ternary a b d r fn ha hb hd hy] V)) 15)
        (after [StableHlo.ternary a b d r fn ha hb hd hy] V)) := by
  intro c V β k K
  have e : elemOf r hr (after [StableHlo.ternary a b d r fn ha hb hd hy] V)
      = cast (congrArg (BufTy.Contents (Elt F)) hr) ((StableHlo.ternary (τ := τ) a b d r fn ha hb hd hy).fn (fun x => V x.1) ⟨r, Finset.mem_singleton_self _⟩) HostLoop.idx0 := by
    unfold elemOf
    rw [StableHlo.after_cons, StableHlo.after_nil, HloOp.result_of_mem _ _ (Finset.mem_singleton_self _)]
  beta_reduce
  rw [e, bind_assoc, wp_bind]
  iintro ⟨Hk, H⟩
  iapply (StableHlo.wp_hlo_within Variants.none (c : Thread nD τ) none Set.univ (StableHlo.ternary_bufs_sub ..)) $$ H
  iintro H
  rw [HostLoop.elt_apply, wp_ret]; imodintro
  rw [HostLoop.case_succ]
  iapply (Runs.bind (harm _) hq c
    (after [StableHlo.ternary a b d r fn ha hb hd hy] V) k K)
  isplitl [Hk]; · iexact Hk
  iexact H

/-- `p` runs, and takes contents `V` to contents that `Φ` relates to `V`. -/
def Does (p : TProg (F := F)) (Φ : Valuation τ sig (Elt F) → Valuation τ sig (Elt F) → Prop) : Prop :=
  ∃ f, Runs p f ∧ ∀ V, Φ V (f V)

/-! ## The run -/

theorem no_scoped_refs : (Finset.univ.filter fun b : Ref sig .tc => b.isScoped) = ∅ := by decide
theorem no_scoped_sems : (Finset.univ.filter fun sm : SemLoc sig => sm.isScoped .tc) = ∅ := by decide

variable (m : (ℓ : Loc nD τ sig) → Buf (Elt F) ℓ) (ρ : Dev nD → PrngReg)

/-- What each core ends holding. -/
def ends (f : Valuation τ sig (Elt F) → Valuation τ sig (Elt F)) (d : Dev nD) : sProp 𝕄 :=
  held (d : Thread nD τ) (tcRefs τ sig) (f (StableHlo.launchContents m d))

theorem launch_held (d : Dev nD) :
    (bigSep Finset.univ fun b : Ref sig .tc =>
        ((d : Thread nD τ).loc b ↦{fullShare} (⟨m, fun _ => 0, ρ⟩ : MemSt nD τ sig (Elt F)).mem ((d : Thread nD τ).loc b) : sProp 𝕄))
      = held (d : Thread nD τ) (tcRefs τ sig) (StableHlo.launchContents m d) := by
  unfold held tcRefs; rw [bigSep_map]; rfl

set_option backward.isDefEq.respectTransparency.types false in
theorem step {f : Valuation τ sig (Elt F) → Valuation τ sig (Elt F)} {p : Dev nD → TProg (F := F)} (h : ∀ d, Runs (p d) f) (d : Dev nD) :
    iprop((bigSep Finset.univ fun b : Ref sig .tc =>
            ((d : Thread nD τ).loc b ↦{fullShare} (⟨m, fun _ => 0, ρ⟩ : MemSt nD τ sig (Elt F)).mem ((d : Thread nD τ).loc b)))
        ∗ owes (d : Thread nD τ) 0 ∅ ∗ prngReg d (ρ d) ∗ opIdle (d : Thread nD τ))
      ⊢ wp frame (wpE defs Variants.none (d : Thread nD τ) none) Set.univ (p d)
          (fun _ => post (liftTc (ends m f) BI.emp) (d : Thread nD τ) : PUnit → sProp 𝕄) := by
  rw [launch_held, show p d = (p d >>= fun u => Pure.pure u) from (bind_pure _).symm]
  iintro ⟨Hbufs, HO, -, Hidle⟩
  ihave Hb := (boundary_of_opIdle (Val := Elt F) (d : Thread nD τ) (by rw [scopedRefs_tc, no_scoped_refs, Finset.map_empty])
    (by rw [show (d : Thread nD τ) = (d, .tc) from rfl, scopedCells_tc, no_scoped_sems, Finset.map_empty])) $$ Hidle
  iapply (h d d (StableHlo.launchContents m d) (fun u => Pure.pure u) _)
  isplitl [HO]
  · iintro ⟨-, Hheld⟩
    rw [wp_pure]; imodintro
    unfold post ends; simp only [liftTc_tc]
    isplitl [Hheld]; · iexact Hheld
    iexists ∅; iexact HO
  isplitl [Hb]; · iexact Hb
  iexact Hbufs

/-- The contents at the end, read against the memory. -/
theorem ends_read (f : Valuation τ sig (Elt F) → Valuation τ sig (Elt F)) (d : Dev nD) (s' : Phys nD τ sig (Elt F)) :
    iprop(ends m f d ∗ SI s')
      ⊢ (⌜∀ b : Ref sig .tc, s'.mem.mem ((d : Thread nD τ).loc b) = f (StableHlo.launchContents m d) b⌝ : sProp 𝕄) := by
  unfold ends held
  iintro ⟨H, HSI⟩
  ihave %h := (SI_pointsTo_bufs_agree (qs := fun _ => fullShare) (tcRefs τ sig)) $$ [HSI H]
  · isplitl [HSI]; · iexact HSI
    iexact H
  ipureintro
  exact fun b => h _ (StableHlo.devRef_mem_tcRefs b)

/-- From any memory with zero counters: every weakly fair execution of `p` terminates, and every final state has the TensorCore's
    buffers where `Φ` says, and every counter at zero. -/
theorem run_of_does {p : Dev nD → TProg (F := F)} {q : TProg (F := F)} (hp : ∀ d, p d = q)
    {Φ : Valuation τ sig (Elt F) → Valuation τ sig (Elt F) → Prop} (h : Does q Φ) :
    θ_run defs (onTc (τ := τ) p) ⟨m, fun _ => 0, ρ⟩ (fun r =>
      (∀ d : Dev nD, ∃ W : Valuation τ sig (Elt F), Φ (StableHlo.launchContents m d) W
        ∧ ∀ b : Ref sig .tc, r.2.mem ((d : Thread nD τ).loc b) = W b) ∧ r.2.sem = fun _ => 0) := by
  obtain ⟨f, hf, hΦ⟩ := h
  have hrun := adequate_tpu defs (onTc (τ := τ) p) ⟨m, fun _ => 0, ρ⟩ (fun r => ∀ (d : Dev nD) (b : Ref sig .tc), r.2.mem ((d : Thread nD τ).loc b) = f (StableHlo.launchContents m d) b)
    (reflect_intro_silent_tc (Ix := Unit) (Name := ℕ) (U := Option PUnit) (Lvl := Unit)
    Variants.none (fun _ => le_rfl) none (ends m f)
    (fun d mem => ∀ b : Ref sig .tc, mem.mem ((d : Thread nD τ).loc b) = f (StableHlo.launchContents m d) b)
    (step m ρ (fun d => (hp d).symm ▸ hf)) (ends_read m f) (fun _ h d => h d))
  exact (θ_run defs _ _).mono (fun r h => ⟨fun d => ⟨f (StableHlo.launchContents m d), hΦ _, h d⟩, sem_eq_zero_of_no_sems rfl r.2⟩) hrun

end Cert.Proof.R

end
-- ==== Proof.R.Main.lean ====
/- The reference's @main, cut into lists of operations and the four branches. -/
module

public import proofs.«01_k».proof.Proof.R.Read

@[expose] public section

noncomputable section

namespace Cert.Proof.R

open Cert.ReferenceIdeal Cert.ReferenceIdeal.Gen

open Idealize.ShloMosaic
open Idealize.ShloMosaic.TcCoe
open Idealize.SL.Sem
open Idealize.ShloMosaic.StableHlo (after)

variable {F : FTy → Type} [FloatOps F]

/-- A program cut at the call `q`. -/
structure CallCut (p q : TProg (F := F)) where
  ops : List (HloOp τ sig (Elt F))
  rest : TProg (F := F)
  reads : Reads p ops (q >>= fun _ => rest)

/-- A straight line of operations. -/
structure Line (p : TProg (F := F)) where
  ops : List (HloOp τ sig (Elt F))
  reads : Reads p ops (pure ⟨⟩)

/-- A program cut at the branch on the result `r` of a ternary operation. -/
structure CaseCut (p : TProg (F := F)) (r : Ref sig .tc) (hr : r.ty = ⟨⟨0, ![]⟩, .i32⟩) where
  {a b d : Ref sig .tc}
  {fn : a.ty.Contents (Elt F) → b.ty.Contents (Elt F) → d.ty.Contents (Elt F) → r.ty.Contents (Elt F)}
  {ha : a.space ≠ .host ∧ (a : DevRef τ sig).isScoped = false}
  {hb : b.space ≠ .host ∧ (b : DevRef τ sig).isScoped = false}
  {hd : d.space ≠ .host ∧ (d : DevRef τ sig).isScoped = false}
  {hy : r.space ≠ .host ∧ (r : DevRef τ sig).isScoped = false}
  ops : List (HloOp τ sig (Elt F))
  arms : Fin 16 → TProg (F := F)
  rest : TProg (F := F)
  reads : Reads p ops (hlo rfl (StableHlo.ternary a b d r fn ha hb hd hy) (HostLoop.elt r hr) >>= fun v => (HostLoop.case 16 v arms >>= fun _ => rest))

/-- The operation that a cut branches on. -/
abbrev CaseCut.op {p : TProg (F := F)} {r : Ref sig .tc} {hr : r.ty = ⟨⟨0, ![]⟩, .i32⟩} (C : CaseCut p r hr) : HloOp τ sig (Elt F) :=
  StableHlo.ternary C.a C.b C.d r C.fn C.ha C.hb C.hd C.hy

/-- A branch with more to do after its program's own rest. -/
theorem Reads.stopCase {a b d r : Ref sig .tc} {fn : a.ty.Contents (Elt F) → b.ty.Contents (Elt F) → d.ty.Contents (Elt F) → r.ty.Contents (Elt F)}
    {ha hb hd hy} {hr : r.ty = ⟨⟨0, ![]⟩, .i32⟩} {arms : Fin 16 → TProg (F := F)} {q₁ q₂ : TProg (F := F)} :
    Reads ((Idealize.ShloMosaic.hlo rfl (StableHlo.ternary a b d r fn ha hb hd hy) (HostLoop.elt r hr) >>= fun v => (HostLoop.case 16 v arms >>= fun _ => q₁)) >>= fun _ => q₂) []
      (Idealize.ShloMosaic.hlo rfl (StableHlo.ternary a b d r fn ha hb hd hy) (HostLoop.elt r hr) >>= fun v => (HostLoop.case 16 v arms >>= fun _ => (q₁ >>= fun _ => q₂))) := by
  rw [bind_assoc]
  simp only [bind_assoc]
  exact Reads.stop

set_option maxHeartbeats 4000000
set_option maxRecDepth 10000

/-- @main up to the draw of the uniform numbers. -/
def cut0 : CallCut (main (F := F) 0) (fn_uniform.body (.of main_v6) main_call0.cst main_call0.cst_0 main_call0.call0) := by
  apply CallCut.mk
  unfold main main_part0 fn_gumbel.body
  repeat (first
    | (with_reducible apply Reads.hlo
       · first
         | with_reducible exact StableHlo.unary_bufs_sub ..
         | with_reducible exact StableHlo.binary_bufs_sub ..
         | with_reducible exact StableHlo.nullary_bufs_sub ..
         | with_reducible exact StableHlo.reshape_bufs_sub ..
       · rfl)
    | with_reducible apply Reads.assoc
    | with_reducible apply Reads.ret)
  with_reducible exact Reads.stop

end Cert.Proof.R

end
-- ==== Proof.R.Cuts.lean ====
/- The rest of the reference's @main, cut at the four branches. -/
module

public import proofs.«01_k».proof.Proof.R.Main

@[expose] public section

noncomputable section

namespace Cert.Proof.R

open Cert.ReferenceIdeal Cert.ReferenceIdeal.Gen

open Idealize.ShloMosaic
open Idealize.ShloMosaic.TcCoe
open Idealize.SL.Sem
open Idealize.ShloMosaic.StableHlo (after)

variable {F : FTy → Type} [FloatOps F]

set_option maxHeartbeats 4000000
set_option maxRecDepth 10000

/-- From there to the first layer's branch. -/
def cut1 : CaseCut (cut0 (F := F)).rest main_v79 rfl := by
  apply CaseCut.mk
  dsimp only [cut0]
  unfold fn_argmax.body main_part1
  repeat (first
    | (with_reducible apply Reads.hlo
       · first
         | with_reducible exact StableHlo.unary_bufs_sub ..
         | with_reducible exact StableHlo.binary_bufs_sub ..
         | with_reducible exact StableHlo.nullary_bufs_sub ..
         | with_reducible exact StableHlo.reshape_bufs_sub ..
         | with_reducible exact StableHlo.quaternary_bufs_sub ..
         | with_reducible exact StableHlo.ternary_bufs_sub ..
       · rfl)
    | with_reducible apply Reads.assoc
    | with_reducible apply Reads.ret)
  with_reducible exact Reads.stopCase (F := F)

/-- To the second layer's branch. -/
def cut2 : CaseCut (cut1 (F := F)).rest main_v147 rfl := by
  apply CaseCut.mk
  dsimp only [cut1]
  unfold main_part2
  repeat (first
    | (with_reducible apply Reads.hlo
       · first
         | with_reducible exact StableHlo.unary_bufs_sub ..
         | with_reducible exact StableHlo.binary_bufs_sub ..
         | with_reducible exact StableHlo.nullary_bufs_sub ..
         | with_reducible exact StableHlo.reshape_bufs_sub ..
         | with_reducible exact StableHlo.quaternary_bufs_sub ..
         | with_reducible exact StableHlo.ternary_bufs_sub ..
       · rfl)
    | with_reducible apply Reads.assoc
    | with_reducible apply Reads.ret)
  with_reducible exact Reads.stopCase (F := F)

/-- To the third layer's branch. -/
def cut3 : CaseCut (cut2 (F := F)).rest main_v215 rfl := by
  apply CaseCut.mk
  dsimp only [cut2]
  unfold main_part3
  repeat (first
    | (with_reducible apply Reads.hlo
       · first
         | with_reducible exact StableHlo.unary_bufs_sub ..
         | with_reducible exact StableHlo.binary_bufs_sub ..
         | with_reducible exact StableHlo.nullary_bufs_sub ..
         | with_reducible exact StableHlo.reshape_bufs_sub ..
         | with_reducible exact StableHlo.quaternary_bufs_sub ..
         | with_reducible exact StableHlo.ternary_bufs_sub ..
       · rfl)
    | with_reducible apply Reads.assoc
    | with_reducible apply Reads.ret)
  with_reducible exact Reads.stopCase (F := F)

/-- To the fourth layer's branch. -/
def cut4 : CaseCut (cut3 (F := F)).rest main_v283 rfl := by
  apply CaseCut.mk
  dsimp only [cut3]
  unfold main_part4
  repeat (first
    | (with_reducible apply Reads.hlo
       · first
         | with_reducible exact StableHlo.unary_bufs_sub ..
         | with_reducible exact StableHlo.binary_bufs_sub ..
         | with_reducible exact StableHlo.nullary_bufs_sub ..
         | with_reducible exact StableHlo.reshape_bufs_sub ..
         | with_reducible exact StableHlo.quaternary_bufs_sub ..
         | with_reducible exact StableHlo.ternary_bufs_sub ..
       · rfl)
    | with_reducible apply Reads.assoc
    | with_reducible apply Reads.ret)
  with_reducible exact Reads.stop

end Cert.Proof.R

end
-- ==== Proof.R.Layer.lean ====
/- The reference's layers: what each does to the running array, and the buffers that each leaves. -/
module

public import proofs.«01_k».proof.Proof.R.Cuts

@[expose] public section

noncomputable section

namespace Cert.Proof.R

open Cert.ReferenceIdeal Cert.ReferenceIdeal.Gen

open Idealize.ShloMosaic
open Idealize.ShloMosaic.TcCoe
open Idealize.SL.Sem
open Idealize.ShloMosaic.StableHlo (after)

variable {F : FTy → Type} [FloatOps F]

/-- Entry `(j, i)` of the table of magnitudes is in range. -/
theorem mag_slices (j : Fin 8) (i : Fin 16) : S8x16.Slices ![j.val, i.val] S1x1 := by
  revert j i; decide

/-- Entry `(j, i)` of the table of magnitudes, as a scalar. -/
def magAt (A : (⟨S8x16, .f32⟩ : BufTy).Contents (Elt F)) (j : Fin 8) (i : Fin 16) : (⟨S_, .f32⟩ : BufTy).Contents (Elt F) :=
  fun k => shapeCast S_ (extractStridedSlice S1x1 ![j.val, i.val] A (mag_slices j i)) shapeCasts_S1x1_S_ k

/-- A scalar at every entry of the image. -/
abbrev spread (a : (⟨S_, .f32⟩ : BufTy).Contents (Elt F)) : (⟨S128x3x224x224, .f32⟩ : BufTy).Contents (Elt F) :=
  broadcastInDim S128x3x224x224 ![] bcast_S_S128x3x224x224 a

/-- The scalar one. -/
abbrev one : (⟨S_, .f32⟩ : BufTy).Contents (Elt F) := constant S_ .f32 0x3F800000#32

/-- The operation `i` on an image, with its two magnitudes. -/
def refOp (i : Fin 16) (x : (⟨S128x3x224x224, .f32⟩ : BufTy).Contents (Elt F)) (m0 m1 : (⟨S_, .f32⟩ : BufTy).Contents (Elt F)) :
    (⟨S128x3x224x224, .f32⟩ : BufTy).Contents (Elt F) :=
  match i.val % 8 with
  | 0 => x
  | 1 => addf x (spread m0)
  | 2 => mulf x (spread (addf one m0))
  | 3 => subf (spread m1) x
  | 4 => addf x (mulf (spread m0) (Host.sin x))
  | 5 => addf (mulf x (spread m1)) (spread m0)
  | 6 => mulf (Host.tanh x) (spread (addf one m1))
  | _ => Host.divf x (spread (addf one (Host.absf m1)))

/-- The four chosen operations' entry `j`, limited to the range of the sixteen. -/
def clampV (o : (⟨S4, .i32⟩ : BufTy).Contents (Elt F)) (j : Fin 4) : (⟨S_, .i32⟩ : BufTy).Contents (Elt F) :=
  minsi (maxsi (fun k => shapeCast S_ (extractStridedSlice S1 ![j.val] o (by revert j; decide)) shapeCasts_S1_S_ k) (constantI S_ 32 0#32)) (constantI S_ 32 15#32)

/-- The operation that layer `j` performs. -/
def opAt (o : (⟨S4, .i32⟩ : BufTy).Contents (Elt F)) (j : Fin 4) : Fin 16 := HostLoop.branch (clampV o j HostLoop.idx0) 15

/-- Layer `j` on an image. -/
def refLayer (o : (⟨S4, .i32⟩ : BufTy).Contents (Elt F)) (A : (⟨S8x16, .f32⟩ : BufTy).Contents (Elt F)) (j : Fin 4)
    (x : (⟨S128x3x224x224, .f32⟩ : BufTy).Contents (Elt F)) : (⟨S128x3x224x224, .f32⟩ : BufTy).Contents (Elt F) :=
  refOp (opAt o j) x (magAt A ⟨j.val, by omega⟩ (opAt o j)) (magAt A ⟨j.val + 4, by omega⟩ (opAt o j))

/-- The buffers that no list of operations after the first writes: the arguments. -/
def Kept (V W : Valuation τ sig (Elt F)) : Prop := W main_arg0 = V main_arg0 ∧ W main_arg1 = V main_arg1 ∧ W main_arg2 = V main_arg2

omit [FloatOps F] in
theorem Kept.trans {U V W : Valuation τ sig (Elt F)} (h : Kept U V) (h' : Kept V W) : Kept U W :=
  ⟨h'.1.trans h.1, h'.2.1.trans h.2.1, h'.2.2.trans h.2.2⟩

omit [FloatOps F] in
theorem kept_of {ops : List (HloOp τ sig (Elt F))}
    (h : (ops.all fun op => decide (Proc.devRef .tc main_arg0 ∉ op.writes) && decide (Proc.devRef .tc main_arg1 ∉ op.writes)
      && decide (Proc.devRef .tc main_arg2 ∉ op.writes)) = true) (V : Valuation τ sig (Elt F)) : Kept V (after ops V) := by
  have h' : ∀ op ∈ ops, (Proc.devRef .tc main_arg0 ∉ op.writes ∧ Proc.devRef .tc main_arg1 ∉ op.writes) ∧ Proc.devRef .tc main_arg2 ∉ op.writes := by
    intro op hop
    have := List.all_eq_true.mp h op hop
    simpa only [Bool.and_eq_true, decide_eq_true_eq] using this
  exact ⟨StableHlo.after_of_forall_not_mem ops V fun op ho => (h' op ho).1.1,
    StableHlo.after_of_forall_not_mem ops V fun op ho => (h' op ho).1.2,
    StableHlo.after_of_forall_not_mem ops V fun op ho => (h' op ho).2⟩

omit [FloatOps F] in
theorem kept_word {ops : List (HloOp τ sig (Elt F))} (h : (ops.all fun op => decide (Proc.devRef .tc main_v12 ∉ op.writes)) = true)
    (V : Valuation τ sig (Elt F)) : after ops V main_v12 = V main_v12 :=
  StableHlo.after_of_forall_not_mem ops V fun op ho => by simpa only [decide_eq_true_eq] using List.all_eq_true.mp h op ho

/-- A program cut at a branch, from what each arm leaves and what the rest does. -/
theorem Does.layer {p : TProg (F := F)} {r : Ref sig .tc} {hr : r.ty = ⟨⟨0, ![]⟩, .i32⟩} (C : CaseCut p r hr)
    {Φ Ψ : Valuation τ sig (Elt F) → Valuation τ sig (Elt F) → Prop}
    (harm : ∀ i, ∃ ops, Reads (C.arms i) ops (pure ⟨⟩) ∧ ∀ V,
      i = HostLoop.branch (elemOf r hr (after [C.op] (after C.ops V))) 15 → Φ V (after ops (after [C.op] (after C.ops V))))
    (hrest : Does C.rest Ψ) : Does p fun V V' => ∃ W, Φ V W ∧ Ψ W V' := by
  choose ops hops hΦ using harm
  obtain ⟨g, hg, hΨ⟩ := hrest
  exact ⟨_, Runs.list C.reads (Runs.case hr (fun i => Runs.list (hops i) Runs.done) hg), fun V => ⟨_, hΦ _ V rfl, hΨ _⟩⟩

set_option maxHeartbeats 4000000
set_option maxRecDepth 10000

/-- Layer 1's arms. -/
theorem arms1 (i : Fin 16) : ∃ ops, Reads ((cut1 (F := F)).arms i) ops (pure ⟨⟩)
    ∧ ∀ V, after ops (after [(cut1 (F := F)).op] (after (cut1 (F := F)).ops V)) main_v80
        = refOp i (V main_arg0) (magAt (V main_arg2) 0 i) (magAt (V main_arg2) 4 i)
      ∧ Kept V (after ops (after [(cut1 (F := F)).op] (after (cut1 (F := F)).ops V)))
      ∧ after ops (after [(cut1 (F := F)).op] (after (cut1 (F := F)).ops V)) main_v12 = after (cut1 (F := F)).ops V main_v12 := by
  fin_cases i
  all_goals
    apply Exists.intro
    apply And.intro
    · dsimp only [cut1]
      repeat (first
        | (with_reducible apply Reads.hlo
           · first
             | with_reducible exact StableHlo.unary_bufs_sub ..
             | with_reducible exact StableHlo.binary_bufs_sub ..
             | with_reducible exact StableHlo.nullary_bufs_sub ..
           · rfl))
      with_reducible exact Reads.stop
    · intro V
      refine ⟨?_, ((kept_of (by rfl) V).trans (kept_of (by rfl) _)).trans (kept_of (by rfl) _), (kept_word (by rfl) _).trans (kept_word (by rfl) _)⟩
      unfold CaseCut.op cut1
      dsimp only
      after_reads_simp
      rfl

/-- The word that layer 1 branches on. -/
theorem word1 (V : Valuation τ sig (Elt F)) : elemOf main_v79 rfl (after [(cut1 (F := F)).op] (after (cut1 (F := F)).ops V))
    = clampV (after (cut1 (F := F)).ops V main_v12) 0 HostLoop.idx0 := by
  unfold CaseCut.op cut1
  dsimp only [elemOf]
  after_reads_simp
  rfl

/-- Layer 2's arms. -/
theorem arms2 (i : Fin 16) : ∃ ops, Reads ((cut2 (F := F)).arms i) ops (pure ⟨⟩)
    ∧ ∀ V, after ops (after [(cut2 (F := F)).op] (after (cut2 (F := F)).ops V)) main_v148
        = refOp i (V main_v80) (magAt (V main_arg2) 1 i) (magAt (V main_arg2) 5 i)
      ∧ Kept V (after ops (after [(cut2 (F := F)).op] (after (cut2 (F := F)).ops V)))
      ∧ after ops (after [(cut2 (F := F)).op] (after (cut2 (F := F)).ops V)) main_v12 = after (cut2 (F := F)).ops V main_v12 := by
  fin_cases i
  all_goals
    apply Exists.intro
    apply And.intro
    · dsimp only [cut2]
      repeat (first
        | (with_reducible apply Reads.hlo
           · first
             | with_reducible exact StableHlo.unary_bufs_sub ..
             | with_reducible exact StableHlo.binary_bufs_sub ..
             | with_reducible exact StableHlo.nullary_bufs_sub ..
           · rfl))
      with_reducible exact Reads.stop
    · intro V
      refine ⟨?_, ((kept_of (by rfl) V).trans (kept_of (by rfl) _)).trans (kept_of (by rfl) _), (kept_word (by rfl) _).trans (kept_word (by rfl) _)⟩
      unfold CaseCut.op cut2
      dsimp only
      after_reads_simp
      rfl

/-- The word that layer 2 branches on. -/
theorem word2 (V : Valuation τ sig (Elt F)) : elemOf main_v147 rfl (after [(cut2 (F := F)).op] (after (cut2 (F := F)).ops V))
    = clampV (after (cut2 (F := F)).ops V main_v12) 1 HostLoop.idx0 := by
  unfold CaseCut.op cut2
  dsimp only [elemOf]
  after_reads_simp
  rfl

/-- Layer 3's arms. -/
theorem arms3 (i : Fin 16) : ∃ ops, Reads ((cut3 (F := F)).arms i) ops (pure ⟨⟩)
    ∧ ∀ V, after ops (after [(cut3 (F := F)).op] (after (cut3 (F := F)).ops V)) main_v216
        = refOp i (V main_v148) (magAt (V main_arg2) 2 i) (magAt (V main_arg2) 6 i)
      ∧ Kept V (after ops (after [(cut3 (F := F)).op] (after (cut3 (F := F)).ops V)))
      ∧ after ops (after [(cut3 (F := F)).op] (after (cut3 (F := F)).ops V)) main_v12 = after (cut3 (F := F)).ops V main_v12 := by
  fin_cases i
  all_goals
    apply Exists.intro
    apply And.intro
    · dsimp only [cut3]
      repeat (first
        | (with_reducible apply Reads.hlo
           · first
             | with_reducible exact StableHlo.unary_bufs_sub ..
             | with_reducible exact StableHlo.binary_bufs_sub ..
             | with_reducible exact StableHlo.nullary_bufs_sub ..
           · rfl))
      with_reducible exact Reads.stop
    · intro V
      refine ⟨?_, ((kept_of (by rfl) V).trans (kept_of (by rfl) _)).trans (kept_of (by rfl) _), (kept_word (by rfl) _).trans (kept_word (by rfl) _)⟩
      unfold CaseCut.op cut3
      dsimp only
      after_reads_simp
      rfl

/-- The word that layer 3 branches on. -/
theorem word3 (V : Valuation τ sig (Elt F)) : elemOf main_v215 rfl (after [(cut3 (F := F)).op] (after (cut3 (F := F)).ops V))
    = clampV (after (cut3 (F := F)).ops V main_v12) 2 HostLoop.idx0 := by
  unfold CaseCut.op cut3
  dsimp only [elemOf]
  after_reads_simp
  rfl

/-- Layer 4's arms. -/
theorem arms4 (i : Fin 16) : ∃ ops, Reads ((cut4 (F := F)).arms i) ops (pure ⟨⟩)
    ∧ ∀ V, after ops (after [(cut4 (F := F)).op] (after (cut4 (F := F)).ops V)) main_v284
        = refOp i (V main_v216) (magAt (V main_arg2) 3 i) (magAt (V main_arg2) 7 i)
      ∧ Kept V (after ops (after [(cut4 (F := F)).op] (after (cut4 (F := F)).ops V)))
      ∧ after ops (after [(cut4 (F := F)).op] (after (cut4 (F := F)).ops V)) main_v12 = after (cut4 (F := F)).ops V main_v12 := by
  fin_cases i
  all_goals
    apply Exists.intro
    apply And.intro
    · dsimp only [cut4]
      repeat (first
        | (with_reducible apply Reads.hlo
           · first
             | with_reducible exact StableHlo.unary_bufs_sub ..
             | with_reducible exact StableHlo.binary_bufs_sub ..
             | with_reducible exact StableHlo.nullary_bufs_sub ..
           · rfl))
      with_reducible exact Reads.stop
    · intro V
      refine ⟨?_, ((kept_of (by rfl) V).trans (kept_of (by rfl) _)).trans (kept_of (by rfl) _), (kept_word (by rfl) _).trans (kept_word (by rfl) _)⟩
      unfold CaseCut.op cut4
      dsimp only
      after_reads_simp
      rfl

/-- The word that layer 4 branches on. -/
theorem word4 (V : Valuation τ sig (Elt F)) : elemOf main_v283 rfl (after [(cut4 (F := F)).op] (after (cut4 (F := F)).ops V))
    = clampV (after (cut4 (F := F)).ops V main_v12) 3 HostLoop.idx0 := by
  unfold CaseCut.op cut4
  dsimp only [elemOf]
  after_reads_simp
  rfl

end Cert.Proof.R

end
-- ==== Proof.R.Uniform.lean ====
/- The reference's draw of uniform numbers, as one list of operations. -/
module

public import proofs.«01_k».proof.Proof.R.Main

@[expose] public section

noncomputable section

namespace Cert.Proof.R

open Cert.ReferenceIdeal Cert.ReferenceIdeal.Gen

open Idealize.ShloMosaic
open Idealize.ShloMosaic.TcCoe
open Idealize.SL.Sem
open Idealize.ShloMosaic.StableHlo (after)

variable {F : FTy → Type} [FloatOps F]

set_option maxHeartbeats 4000000
set_option maxRecDepth 10000

/-- The draw of the uniform numbers. -/
def uniform : Line (F := F) (fn_uniform.body (.of main_v6) main_call0.cst main_call0.cst_0 main_call0.call0) := by
  apply Line.mk
  unfold fn_uniform.body fn_threefry2x32.body fn_threefry2x32.body_part0 fn_threefry2x32.body_part1 fn_threefry2x32.body_part2 fn_threefry2x32.body_part3
  repeat (first
    | (with_reducible apply Reads.hlo
       · first
         | with_reducible exact StableHlo.unary_bufs_sub ..
         | with_reducible exact StableHlo.binary_bufs_sub ..
         | with_reducible exact StableHlo.nullary_bufs_sub ..
         | with_reducible exact StableHlo.reshape_bufs_sub ..
         | with_reducible exact StableHlo.quaternary_bufs_sub ..
         | with_reducible exact StableHlo.ternary_bufs_sub ..
       · rfl)
    | with_reducible apply Reads.assoc
    | with_reducible apply Reads.ret)
  with_reducible exact Reads.stop

end Cert.Proof.R

end
-- ==== Proof.R.Run.lean ====
/- The reference's run: what it leaves in its result, and that it leaves its arguments. -/
module

public import proofs.«01_k».proof.Proof.R.Layer
public import proofs.«01_k».proof.Proof.R.Uniform

@[expose] public section

noncomputable section

namespace Cert.Proof.R

open Cert.ReferenceIdeal Cert.ReferenceIdeal.Gen

open Idealize.ShloMosaic
open Idealize.ShloMosaic.TcCoe
open Idealize.SL.Sem
open Idealize.ShloMosaic.StableHlo (after)

variable {F : FTy → Type} [FloatOps F]

set_option maxHeartbeats 4000000
set_option maxRecDepth 10000

/-- The logarithms of the probabilities. -/
def logits (p : (⟨S4x16, .f32⟩ : BufTy).Contents (Elt F)) : (⟨S4x16, .f32⟩ : BufTy).Contents (Elt F) :=
  Host.log (addf p (broadcastInDim S4x16 ![] bcast_S_S4x16 (constant S_ .f32 0x3089705F#32)))

/-- The operations chosen, from the uniform numbers and the logarithms of the probabilities. -/
def refOpers (u l : (⟨S4x16, .f32⟩ : BufTy).Contents (Elt F)) : (⟨S4, .i32⟩ : BufTy).Contents (Elt F) := fun j =>
  (Host.argReduce reducer_argmax_f32_i32 (addf (Host.negf (Host.log (Host.negf (Host.log u)))) l) (iotaInDim S4x16 32 1)
    (constant S_ .f32 0xFF800000#32) (constantI S_ 32 0#32) reducesTo_S4x16_S4_d1 h_S_ j).2

/-- The uniform numbers that the program draws. -/
def uOf (V : Valuation τ sig (Elt F)) : (⟨S4x16, .f32⟩ : BufTy).Contents (Elt F) :=
  after (uniform (F := F)).ops (after (cut0 (F := F)).ops V) main_call0_v0

theorem logits_read (V : Valuation τ sig (Elt F)) :
    after (uniform (F := F)).ops (after (cut0 (F := F)).ops V) main_v9 = logits (V main_arg1) := by
  have h : ((uniform (F := F)).ops.all fun op => decide (Proc.devRef .tc main_v9 ∉ op.writes)) = true := by rfl
  rw [StableHlo.after_of_forall_not_mem _ _ fun op ho => by simpa only [decide_eq_true_eq] using List.all_eq_true.mp h op ho]
  unfold cut0
  dsimp only
  after_reads_simp
  rfl

theorem opers_read (V : Valuation τ sig (Elt F)) :
    after (cut1 (F := F)).ops V main_v12 = refOpers (V main_call0_v0) (V main_v9) := by
  unfold cut1
  dsimp only
  after_reads_simp
  rfl

/-- What layer `j` does from the buffer `x` to the buffer `y`. -/
def LayerPost (j : Fin 4) (x : Valuation τ sig (Elt F) → (⟨S128x3x224x224, .f32⟩ : BufTy).Contents (Elt F))
    (y : Valuation τ sig (Elt F) → (⟨S128x3x224x224, .f32⟩ : BufTy).Contents (Elt F)) (V W : Valuation τ sig (Elt F)) : Prop :=
  y W = refLayer (W main_v12) (V main_arg2) j (x V) ∧ Kept V W

/-- The last layers, one after the other. -/
theorem does4 : Does (cut3 (F := F)).rest fun V W => LayerPost 3 (fun V => V main_v216) (fun V => V main_v284) V W ∧ W main_v12 = V main_v12 := by
  obtain ⟨f, hf, h⟩ := Does.layer (cut4 (F := F)) (Φ := fun V W => LayerPost 3 (fun V => V main_v216) (fun V => V main_v284) V W ∧ W main_v12 = V main_v12)
    (Ψ := fun V W => W = V) (fun i => by
      obtain ⟨ops, ho, h⟩ := arms4 (F := F) i
      refine ⟨ops, ho, fun V hi => ?_⟩
      obtain ⟨h1, h2, h3⟩ := h V
      have h4 : after (cut4 (F := F)).ops V main_v12 = V main_v12 := kept_word (by rfl) V
      rw [word4] at hi
      subst hi
      refine ⟨⟨?_, h2⟩, h3.trans h4⟩
      refine h1.trans ?_
      rw [h3]; rfl) ⟨id, Runs.done, fun _ => rfl⟩
  exact ⟨f, hf, fun V => by obtain ⟨W, hW, e⟩ := h V; rw [e]; exact hW⟩

theorem does3 : Does (cut2 (F := F)).rest fun V W => ∃ V₁, (LayerPost 2 (fun V => V main_v148) (fun V => V main_v216) V V₁ ∧ V₁ main_v12 = V main_v12)
    ∧ (LayerPost 3 (fun V => V main_v216) (fun V => V main_v284) V₁ W ∧ W main_v12 = V₁ main_v12) :=
  Does.layer (cut3 (F := F)) (fun i => by
      obtain ⟨ops, ho, h⟩ := arms3 (F := F) i
      refine ⟨ops, ho, fun V hi => ?_⟩
      obtain ⟨h1, h2, h3⟩ := h V
      have h4 : after (cut3 (F := F)).ops V main_v12 = V main_v12 := kept_word (by rfl) V
      rw [word3] at hi
      subst hi
      refine ⟨⟨?_, h2⟩, h3.trans h4⟩
      refine h1.trans ?_
      rw [h3]; rfl) does4

theorem does2 : Does (cut1 (F := F)).rest fun V W => ∃ V₁, (LayerPost 1 (fun V => V main_v80) (fun V => V main_v148) V V₁ ∧ V₁ main_v12 = V main_v12)
    ∧ ∃ V₂, (LayerPost 2 (fun V => V main_v148) (fun V => V main_v216) V₁ V₂ ∧ V₂ main_v12 = V₁ main_v12)
    ∧ (LayerPost 3 (fun V => V main_v216) (fun V => V main_v284) V₂ W ∧ W main_v12 = V₂ main_v12) :=
  Does.layer (cut2 (F := F)) (fun i => by
      obtain ⟨ops, ho, h⟩ := arms2 (F := F) i
      refine ⟨ops, ho, fun V hi => ?_⟩
      obtain ⟨h1, h2, h3⟩ := h V
      have h4 : after (cut2 (F := F)).ops V main_v12 = V main_v12 := kept_word (by rfl) V
      rw [word2] at hi
      subst hi
      refine ⟨⟨?_, h2⟩, h3.trans h4⟩
      refine h1.trans ?_
      rw [h3]; rfl) does3

theorem does1 : Does (cut0 (F := F)).rest fun V W => ∃ V₀,
    (LayerPost 0 (fun V => V main_arg0) (fun V => V main_v80) V V₀ ∧ V₀ main_v12 = refOpers (V main_call0_v0) (V main_v9))
    ∧ ∃ V₁, (LayerPost 1 (fun V => V main_v80) (fun V => V main_v148) V₀ V₁ ∧ V₁ main_v12 = V₀ main_v12)
    ∧ ∃ V₂, (LayerPost 2 (fun V => V main_v148) (fun V => V main_v216) V₁ V₂ ∧ V₂ main_v12 = V₁ main_v12)
    ∧ (LayerPost 3 (fun V => V main_v216) (fun V => V main_v284) V₂ W ∧ W main_v12 = V₂ main_v12) :=
  Does.layer (cut1 (F := F)) (fun i => by
      obtain ⟨ops, ho, h⟩ := arms1 (F := F) i
      refine ⟨ops, ho, fun V hi => ?_⟩
      obtain ⟨h1, h2, h3⟩ := h V
      rw [word1] at hi
      subst hi
      refine ⟨⟨?_, h2⟩, h3.trans (opers_read V)⟩
      refine h1.trans ?_
      rw [h3]; rfl) does2

/-- The result: the four layers in turn. -/
def refOut (u : (⟨S4x16, .f32⟩ : BufTy).Contents (Elt F)) (x : (⟨S128x3x224x224, .f32⟩ : BufTy).Contents (Elt F))
    (p : (⟨S4x16, .f32⟩ : BufTy).Contents (Elt F)) (A : (⟨S8x16, .f32⟩ : BufTy).Contents (Elt F)) :
    (⟨S128x3x224x224, .f32⟩ : BufTy).Contents (Elt F) :=
  let o := refOpers u (logits p)
  refLayer o A 3 (refLayer o A 2 (refLayer o A 1 (refLayer o A 0 x)))

/-- @main leaves the four layers' result and its arguments. -/
theorem main_does : Does (main (F := F) 0) fun V W =>
    W main_v284 = refOut (uOf V) (V main_arg0) (V main_arg1) (V main_arg2) ∧ Kept V W := by
  obtain ⟨f, hf, h⟩ := does1 (F := F)
  refine ⟨_, Runs.list (cut0 (F := F)).reads (Runs.bind (Runs.list (uniform (F := F)).reads Runs.done) hf), fun V => ?_⟩
  obtain ⟨V₀, ⟨⟨a1, a2⟩, a3⟩, V₁, ⟨⟨b1, b2⟩, b3⟩, V₂, ⟨⟨c1, c2⟩, c3⟩, ⟨d1, d2⟩, d3⟩ := h (after (uniform (F := F)).ops (after (cut0 (F := F)).ops V))
  have k : Kept V (after (uniform (F := F)).ops (after (cut0 (F := F)).ops V)) := (kept_of (by rfl) V).trans (kept_of (by rfl) _)
  have k0 := k.trans a2
  have k1 := k0.trans b2
  have k2 := k1.trans c2
  rw [logits_read] at a3
  refine ⟨?_, k2.trans d2⟩
  dsimp only at a1 b1 c1 d1
  refine d1.trans ?_
  rw [d3, c3, b3, a3, c1, c3, b3, a3, b1, b3, a3, a1, a3, k.1, k.2.2, k0.2.2, k1.2.2, k2.2.2]
  rfl

variable (m : (ℓ : Loc nD τ sig) → Buf (Elt F) ℓ) (ρ : Dev nD → PrngReg)

/-- The reference's run. -/
theorem run_main : θ_run defs (onTc (τ := τ) (main (F := F))) ⟨m, fun _ => 0, ρ⟩ (fun r =>
    (∀ c : Dev nD, r.2.mem ((c : Thread nD τ).loc main_v284) = refOut (uOf (StableHlo.launchContents m c)) (m ((c : Thread nD τ).loc main_arg0))
        (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)) ∧ r.2.sem = fun _ => 0) :=
  (θ_run defs _ _).mono (fun r h => ⟨fun c => by
    obtain ⟨W, ⟨h1, h2⟩, hW⟩ := h.1 c
    exact ⟨(hW _).trans h1, (hW _).trans h2.1, (hW _).trans h2.2.1, (hW _).trans h2.2.2⟩, h.2⟩) (run_of_does m ρ (q := main (F := F) 0) (fun _ => rfl) main_does)

/-- The frame: the run ends with the arguments as launched and every counter at zero. -/
theorem run_frame : θ_run defs (onTc (τ := τ) (main (F := F))) ⟨m, fun _ => 0, ρ⟩
    (fun r => (∀ c : Dev nD, r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)) ∧ r.2.sem = fun _ => 0) :=
  (θ_run defs _ _).mono (fun _ h => ⟨fun c => (h.1 c).2, h.2⟩) (run_main m ρ)

end Cert.Proof.R

end
-- ==== Proof.Read.lean ====
/- What the kernel program's operations before the branch compute: the operations chosen, their magnitudes, the coefficients of each
   layer, and the word that the branch reads. -/
module

public import proofs.«01_k».proof.Proof.Launch
public import Idealize.ShloMosaic.Lib.StableHlo.RunRead
public import Idealize.ShloMosaic.Lib.Pipeline.Value

@[expose] public section

noncomputable section

namespace Cert.Proof.KI

open Cert.KernelIdeal Cert.KernelIdeal.Gen

open Idealize.ShloMosaic
open Idealize.ShloMosaic.TcCoe
open Idealize.SL.Sem
open Idealize.ShloMosaic.StableHlo (after)

variable {F : FTy → Type} [FloatOps F]

set_option maxHeartbeats 4000000
set_option maxRecDepth 10000

/-! ## The operations, in five groups -/

/-- The logarithms of the probabilities and the uniform numbers. -/
def afterU (V : Valuation τ sig (Elt F)) : Valuation τ sig (Elt F) := after hostOps0_1 (after hostOps0 V)
/-- The operations chosen. -/
def afterO (V : Valuation τ sig (Elt F)) : Valuation τ sig (Elt F) := after hostOps0_3 (after hostOps0_2 V)
/-- Their magnitudes and their residues. -/
def afterM (V : Valuation τ sig (Elt F)) : Valuation τ sig (Elt F) := after hostOps0_5 (after hostOps0_4 V)
/-- The coefficients' operations. -/
abbrev coefOps : List (HloOp τ sig (Elt F)) :=
  [hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23].flatten
/-- The coefficients of each layer. -/
def afterC (V : Valuation τ sig (Elt F)) : Valuation τ sig (Elt F) := after coefOps V
/-- The coefficients of the four layers together, and the flag that some layer is not affine. -/
def afterD (V : Valuation τ sig (Elt F)) : Valuation τ sig (Elt F) := after hostOps0_24 V

omit [FloatOps F] in
theorem after_two (l₁ l₂ : List (HloOp τ sig (Elt F))) (V : Valuation τ sig (Elt F)) : after (l₁ ++ l₂) V = after l₂ (after l₁ V) := by
  induction l₁ generalizing V with
  | nil => rfl
  | cons op l ih => exact ih _

theorem after_hostAll (V : Valuation τ sig (Elt F)) : after hostAll V = afterD (afterC (afterM (afterO (afterU V)))) := by
  unfold afterD afterC afterM afterO afterU hostAll stretches coefOps
  simp only [List.flatten_cons, List.flatten_nil, List.append_nil, after_two]

/-! ## What each group leaves alone -/

omit [FloatOps F] in
/-- A buffer that no operation of a list writes. -/
theorem kept {ops : List (HloOp τ sig (Elt F))} (b : Ref sig .tc) (h : (ops.all fun op => decide (Proc.devRef .tc b ∉ op.writes)) = true)
    (V : Valuation τ sig (Elt F)) : after ops V b = V b :=
  StableHlo.after_of_forall_not_mem ops V fun op ho => by simpa only [decide_eq_true_eq] using List.all_eq_true.mp h op ho

theorem mag_U (V : Valuation τ sig (Elt F)) : afterU V main_arg2 = V main_arg2 := (kept _ (by rfl) _).trans (kept _ (by rfl) _)
theorem mag_O (V : Valuation τ sig (Elt F)) : afterO V main_arg2 = V main_arg2 := (kept _ (by rfl) _).trans (kept _ (by rfl) _)
theorem v65_D (V : Valuation τ sig (Elt F)) : afterD V main_v65 = V main_v65 := kept _ (by rfl) _
theorem v66_D (V : Valuation τ sig (Elt F)) : afterD V main_v66 = V main_v66 := kept _ (by rfl) _
theorem v67_D (V : Valuation τ sig (Elt F)) : afterD V main_v67 = V main_v67 := kept _ (by rfl) _
theorem v70_D (V : Valuation τ sig (Elt F)) : afterD V main_v70 = V main_v70 := kept _ (by rfl) _

/-! ## The operations chosen -/

/-- The logarithms of the probabilities. -/
def logits (p : (⟨S4x16, .f32⟩ : BufTy).Contents (Elt F)) : (⟨S4x16, .f32⟩ : BufTy).Contents (Elt F) :=
  Host.log (addf p (broadcastInDim S4x16 ![] bcast_S_S4x16 (constant S_ .f32 0x3089705F#32)))

/-- Each layer's operation: the one of greatest score, from the uniform numbers and the logarithms of the probabilities. -/
def opers (u l : (⟨S4x16, .f32⟩ : BufTy).Contents (Elt F)) : (⟨S4, .i32⟩ : BufTy).Contents (Elt F) := fun j =>
  (Host.argReduce reducer_argmax_f32_i32 (subf l (Host.log (Host.negf (Host.log u)))) (iotaInDim S4x16 32 1)
    (constant S_ .f32 0xFF800000#32) (constantI S_ 32 0#32) reducesTo_S4x16_S4_d1 h_S_ j).2

theorem logits_read (V : Valuation τ sig (Elt F)) : afterU V main_v2 = logits (V main_arg1) := by
  have h : after (hostOps0_1 (F := F)) (after hostOps0 V) main_v2 = after hostOps0 V main_v2 := kept _ (by rfl) _
  refine h.trans ?_
  after_reads_simp
  rfl

theorem opers_read (V : Valuation τ sig (Elt F)) : afterO V main_v15 = opers (V main_v10) (V main_v2) := by
  unfold afterO
  after_reads_simp
  rfl

/-! ## Their magnitudes and residues -/

/-- The magnitude that each layer's operation picks from a half of the table: the sum along the half's rows, all but that entry zeroed. -/
def picked (H : (⟨S4x16, .f32⟩ : BufTy).Contents (Elt F)) (o : (⟨S4, .i32⟩ : BufTy).Contents (Elt F)) : (⟨S4, .f32⟩ : BufTy).Contents (Elt F) :=
  Host.reduceAdd (mulf H (uitofp .f32 (cmpi .eq
      (broadcastInDim S4x16 ![0, 1] bcast_S1x16_S4x16_0_1 (broadcastInDim S1x16 ![1] bcast_S16_S1x16_1 (iotaInDim S16 32 0)))
      (broadcastInDim S4x16 ![0, 1] bcast_S4x1_S4x16_0_1 (broadcastInDim S4x1 ![0] bcast_S4_S4x1_0 o)))))
    (constant S_ .f32 0x00000000#32) reducesTo_S4x16_S4_d1 h_S_

theorem m0_read (V : Valuation τ sig (Elt F)) :
    afterM V main_v25 = picked (extractStridedSlice S4x16 ![0, 0] (V main_arg2) slices_S8x16_S4x16_0_0) (V main_v15) := by
  unfold afterM
  after_reads_simp
  rfl

theorem m1_read (V : Valuation τ sig (Elt F)) :
    afterM V main_v28 = picked (extractStridedSlice S4x16 ![4, 0] (V main_arg2) slices_S8x16_S4x16_4_0) (V main_v15) := by
  unfold afterM
  after_reads_simp
  rfl

/-- An operation's residue by eight, as the program computes it. -/
def residue (o : BitVec 32) : BitVec 32 :=
  let d := Scalar.select (IntOp.cmpi .eq 8#32 0#32) 1#32 8#32
  let r := IntOp.remsi .host o d
  Scalar.select (IntOp.andi (IntOp.cmpi .ne (IntOp.cmpi .slt r 0#32) (IntOp.cmpi .slt d 0#32)) (IntOp.cmpi .ne r 0#32)) (IntOp.addi r d) r

theorem k_read (V : Valuation τ sig (Elt F)) (j : S4.Idx) : afterM V main_v29 j = residue (V main_v15 j) := by
  unfold afterM
  after_reads_simp
  rfl

/-! ## The coefficients -/

section Coef
variable (k : BitVec 32) (m0 m1 : Elt F .f32)

/-- The constants zero, one and minus one. -/
abbrev c0 : Elt F .f32 := FloatOps.ofBits .f32 0x00000000#32
abbrev c1 : Elt F .f32 := FloatOps.ofBits .f32 0x3F800000#32
abbrev cn : Elt F .f32 := FloatOps.ofBits .f32 0xBF800000#32

/-- That a layer is affine. -/
def isAff : BitVec 1 := ~~~ (IntOp.ori (IntOp.cmpi .eq k 4#32) (IntOp.cmpi .eq k 6#32))
/-- An affine layer's slope and offset. -/
def aSel : Elt F .f32 :=
  Scalar.select (IntOp.cmpi .eq k 2#32) (FloatOps.addf c1 m0)
    (Scalar.select (IntOp.cmpi .eq k 3#32) cn
      (Scalar.select (IntOp.cmpi .eq k 5#32) m1
        (Scalar.select (IntOp.cmpi .eq k 7#32) (FloatOps.hostDivf c1 (FloatOps.addf c1 (FloatOps.hostAbsf m1))) c1)))
def bSel : Elt F .f32 :=
  Scalar.select (IntOp.ori (IntOp.cmpi .eq k 1#32) (IntOp.cmpi .eq k 5#32)) m0 (Scalar.select (IntOp.cmpi .eq k 3#32) m1 c0)
/-- Any layer's four coefficients. -/
def aGen : Elt F .f32 := Scalar.select (isAff k) (aSel k m0 m1) (Scalar.select (IntOp.cmpi .eq k 4#32) c1 c0)
def bGen : Elt F .f32 := Scalar.select (isAff k) (bSel k m0 m1) c0
def cGen : Elt F .f32 := Scalar.select (IntOp.cmpi .eq k 4#32) m0 c0
def dGen : Elt F .f32 := Scalar.select (IntOp.cmpi .eq k 6#32) (FloatOps.addf c1 m1) c0
end Coef

variable (V : Valuation τ sig (Elt F)) (j : S4.Idx)

theorem v35_read : afterC V main_v35 j = isAff (V main_v29 j) := by
  unfold afterC coefOps
  after_reads_simp
  rfl
theorem v54_read : afterC V main_v54 j = aSel (V main_v29 j) (V main_v25 j) (V main_v28 j) := by
  unfold afterC coefOps
  after_reads_simp
  rfl
theorem v63_read : afterC V main_v63 j = bSel (V main_v29 j) (V main_v25 j) (V main_v28 j) := by
  unfold afterC coefOps
  after_reads_simp
  rfl
theorem v65_read : afterC V main_v65 j = aGen (V main_v29 j) (V main_v25 j) (V main_v28 j) := by
  unfold afterC coefOps
  after_reads_simp
  rfl
theorem v66_read : afterC V main_v66 j = bGen (V main_v29 j) (V main_v25 j) (V main_v28 j) := by
  unfold afterC coefOps
  after_reads_simp
  rfl
theorem v67_read : afterC V main_v67 j = cGen (V main_v29 j) (V main_v25 j) := by
  unfold afterC coefOps
  after_reads_simp
  rfl
theorem v70_read : afterC V main_v70 j = dGen (V main_v29 j) (V main_v28 j) := by
  unfold afterC coefOps
  after_reads_simp
  rfl

/-! ## The layers together -/

/-- The slopes' product, and the offset of the four affine layers together. -/
def aAll (a : Fin 4 → Elt F .f32) : Elt F .f32 := FloatOps.mulf (a 3) (FloatOps.mulf (a 2) (FloatOps.mulf (a 1) (a 0)))
def bAll (a b : Fin 4 → Elt F .f32) : Elt F .f32 :=
  FloatOps.addf (FloatOps.mulf (a 3) (FloatOps.addf (FloatOps.mulf (a 2) (FloatOps.addf (FloatOps.mulf (a 1) (b 0)) (b 1))) (b 2))) (b 3)

/-- The one index of a vector of one. -/
def only : S1.Idx := fun a => match a with | ⟨0, _⟩ => (0 : Fin 1)

/-- An entry of a vector of four, taken out as a scalar. -/
theorem entry (j : Fin 4) (x : (⟨S4, .f32⟩ : BufTy).Contents (Elt F)) (h : S4.Slices ![j.val] S1) (i : S_.Idx) :
    shapeCast S_ (extractStridedSlice S1 ![j.val] x h) shapeCasts_S1_S_ i = x (word4 j) := by
  unfold shapeCast extractStridedSlice
  congr 1
  funext a
  apply Fin.ext
  fin_cases a
  simp only [word4]
  generalize Shape.reshapeEquiv _ _ = q
  have := (q 0).isLt
  change _ < 1 at this
  show j.val + (q 0).val = j.val
  omega

theorem v104_read0 : afterD V main_v104 (word2 0) = aAll fun j => V main_v54 (word4 j) := by
  unfold afterD
  after_reads_simp
  refine (concatenate_pair_apply_left (s₁ := S1) (s₂ := S1) 0 _ _ _ (word2 0) rfl only (by decide)).trans ?_
  exact congrArg₂ FloatOps.mulf (entry 3 _ _ _) (congrArg₂ FloatOps.mulf (entry 2 _ _ _) (congrArg₂ FloatOps.mulf (entry 1 _ _ _) (entry 0 _ _ _)))
theorem v104_read1 : afterD V main_v104 (word2 1) = bAll (fun j => V main_v54 (word4 j)) fun j => V main_v63 (word4 j) := by
  unfold afterD
  after_reads_simp
  refine (concatenate_pair_apply_right (s₁ := S1) (s₂ := S1) 0 _ _ _ (word2 1) rfl rfl only (by decide) (by decide)).trans ?_
  exact congrArg₂ FloatOps.addf (congrArg₂ FloatOps.mulf (entry 3 _ _ _) (congrArg₂ FloatOps.addf (congrArg₂ FloatOps.mulf (entry 2 _ _ _)
    (congrArg₂ FloatOps.addf (congrArg₂ FloatOps.mulf (entry 1 _ _ _) (entry 0 _ _ _)) (entry 1 _ _ _))) (entry 2 _ _ _))) (entry 3 _ _ _)
theorem v106_read : afterD V main_v106 HostLoop.idx0
    = Host.reduce IntOp.ori (noti (V main_v35)) (constantI S_ 1 0#1) reducesTo_S4_S_d0 h_S_ HostLoop.idx0 := by
  unfold afterD
  after_reads_simp

end Cert.Proof.KI

end
-- ==== Proof.Algebra.lean ====
/- The layers on the extended reals: a layer by its four coefficients is the operation it stands for, and four affine layers with finite
   coefficients are one affine map. -/
module

public import proofs.«01_k».proof.Proof.Read
public import proofs.«01_k».proof.Proof.R.Layer
public import Idealize.ShloMosaic.PureOps.Ideal.Laws
public import Idealize.ShloMosaic.PureOps.IdealRules
public import Idealize.ShloMosaic.Lib.IdealHost

@[expose] public section

noncomputable section

namespace Cert.Proof

open Idealize.ShloMosaic
open Cert.Proof.KI (c0 c1 cn isAff aSel bSel aGen bGen cGen dGen)

/-! ## The constants -/

theorem c0_eq : (c0 (F := Ideal) : EReal) = 0 := Ideal.ofBits_zero_f32
theorem c1_eq : (c1 (F := Ideal) : EReal) = 1 := Ideal.ofBits_one_f32
theorem cn_eq : (cn (F := Ideal) : EReal) = -1 := IdealRules.sign_bit.ideal_negOnePat .f32

/-- One more than a magnitude's absolute value is above zero. -/
theorem one_add_abs_ne (y : EReal) : (1 : EReal) + max y (-y) ≠ 0 := by
  have h : (0 : EReal) ≤ max y (-y) := by
    rcases le_total 0 y with h | h
    · exact le_max_of_le_left h
    · exact le_max_of_le_right (EReal.neg_nonneg.mpr h)
  have h1 : (0 : EReal) < 1 + max y (-y) := lt_of_lt_of_le zero_lt_one (le_add_of_nonneg_right h)
  exact h1.ne'

/-! ## One entry of a layer -/

/-- Operation `k` (of the eight) on one entry. -/
def refPt (k : Nat) (x m0 m1 : EReal) : EReal :=
  match k with
  | 0 => x
  | 1 => x + m0
  | 2 => x * (1 + m0)
  | 3 => m1 - x
  | 4 => x + m0 * Ideal.sin x
  | 5 => x * m1 + m0
  | 6 => Ideal.tanh x * (1 + m1)
  | _ => Ideal.div x (1 + max m1 (-m1))

/-- A layer by its four coefficients on one entry. -/
def genPt (a b c d x : EReal) : EReal := a * x + b + c * Ideal.sin x + d * Ideal.tanh x

theorem div_one_mul (x y : EReal) (h : y ≠ 0) : Ideal.div 1 y * x = Ideal.div x y := by
  unfold Ideal.div
  rw [if_neg h, if_neg h, one_mul, mul_comm]

/-- The affine coefficients of an affine operation. -/
theorem aff_eq (k : Fin 8) (h : isAff (BitVec.ofNat 32 k.val) = 1#1) (x m0 m1 : EReal) :
    aSel (F := Ideal) (BitVec.ofNat 32 k.val) m0 m1 * x + bSel (F := Ideal) (BitVec.ofNat 32 k.val) m0 m1 = refPt k.val x m0 m1 := by
  match k with
  | 0 =>
    show (c1 (F := Ideal) : EReal) * x + c0 (F := Ideal) = x
    rw [c1_eq, c0_eq, one_mul, add_zero]
  | 1 =>
    show (c1 (F := Ideal) : EReal) * x + m0 = x + m0
    rw [c1_eq, one_mul]
  | 2 =>
    show ((c1 (F := Ideal) : EReal) + m0) * x + c0 (F := Ideal) = x * (1 + m0)
    rw [c1_eq, c0_eq, add_zero, mul_comm]
  | 3 =>
    show (cn (F := Ideal) : EReal) * x + m1 = m1 - x
    rw [cn_eq, neg_mul, one_mul, sub_eq_add_neg, add_comm]
  | 4 => exact absurd h (by decide)
  | 5 =>
    show m1 * x + m0 = x * m1 + m0
    rw [mul_comm]
  | 6 => exact absurd h (by decide)
  | 7 =>
    show Ideal.div (c1 (F := Ideal)) ((c1 (F := Ideal) : EReal) + max m1 (-m1)) * x + c0 (F := Ideal) = Ideal.div x (1 + max m1 (-m1))
    rw [c1_eq, c0_eq, add_zero]
    exact div_one_mul x _ (one_add_abs_ne m1)

/-- The four coefficients of any operation. -/
theorem gen_eq (k : Fin 8) (x m0 m1 : EReal) :
    genPt (aGen (F := Ideal) (BitVec.ofNat 32 k.val) m0 m1) (bGen (F := Ideal) (BitVec.ofNat 32 k.val) m0 m1)
      (cGen (F := Ideal) (BitVec.ofNat 32 k.val) m0) (dGen (F := Ideal) (BitVec.ofNat 32 k.val) m1) x = refPt k.val x m0 m1 := by
  by_cases h : isAff (BitVec.ofNat 32 k.val) = 1#1
  · rw [← aff_eq k h x m0 m1]
    have hc : cGen (F := Ideal) (BitVec.ofNat 32 k.val) m0 = c0 (F := Ideal) := by
      match k with | 0 | 1 | 2 | 3 | 5 | 6 | 7 => rfl | 4 => exact absurd h (by decide)
    have hd : dGen (F := Ideal) (BitVec.ofNat 32 k.val) m1 = c0 (F := Ideal) := by
      match k with | 0 | 1 | 2 | 3 | 4 | 5 | 7 => rfl | 6 => exact absurd h (by decide)
    have ha : aGen (F := Ideal) (BitVec.ofNat 32 k.val) m0 m1 = aSel (F := Ideal) (BitVec.ofNat 32 k.val) m0 m1 := by
      exact if_pos h
    have hb : bGen (F := Ideal) (BitVec.ofNat 32 k.val) m0 m1 = bSel (F := Ideal) (BitVec.ofNat 32 k.val) m0 m1 := by
      exact if_pos h
    unfold genPt
    rw [ha, hb, hc, hd, c0_eq, zero_mul, zero_mul, add_zero, add_zero]
  · match k with
    | 0 | 1 | 2 | 3 | 5 | 7 => exact absurd (by decide) h
    | 4 =>
      show (c1 (F := Ideal) : EReal) * x + c0 (F := Ideal) + m0 * Ideal.sin x + (c0 (F := Ideal) : EReal) * Ideal.tanh x = x + m0 * Ideal.sin x
      rw [c1_eq, c0_eq, one_mul, zero_mul, add_zero, add_zero]
    | 6 =>
      show (c0 (F := Ideal) : EReal) * x + c0 (F := Ideal) + (c0 (F := Ideal) : EReal) * Ideal.sin x + ((c1 (F := Ideal) : EReal) + m1) * Ideal.tanh x
        = Ideal.tanh x * (1 + m1)
      rw [c1_eq, c0_eq, zero_mul, zero_mul, add_zero, add_zero, zero_add, mul_comm]

/-! ## Finite coefficients -/

/-- A finite extended real. -/
def IsReal (x : EReal) : Prop := ∃ r : ℝ, x = (r : EReal)

theorem IsReal.add {x y : EReal} : IsReal x → IsReal y → IsReal (x + y) := fun ⟨a, ha⟩ ⟨b, hb⟩ => ⟨a + b, by rw [ha, hb, EReal.coe_add]⟩
theorem IsReal.mul {x y : EReal} : IsReal x → IsReal y → IsReal (x * y) := fun ⟨a, ha⟩ ⟨b, hb⟩ => ⟨a * b, by rw [ha, hb, EReal.coe_mul]⟩
theorem IsReal.zero : IsReal 0 := ⟨0, by simp⟩
theorem IsReal.one : IsReal 1 := ⟨1, by simp⟩
theorem IsReal.abs {x : EReal} : IsReal x → IsReal (max x (-x)) := fun ⟨a, ha⟩ => by
  rcases max_choice x (-x) with h | h
  · exact ⟨a, h.trans ha⟩
  · exact ⟨-a, by rw [h, ha, EReal.coe_neg]⟩

theorem IsReal.inv {y : EReal} (hy : IsReal y) : IsReal (Ideal.div 1 (1 + max y (-y))) := by
  obtain ⟨r, hr⟩ := IsReal.one.add hy.abs
  refine ⟨r⁻¹, ?_⟩
  unfold Ideal.div
  rw [if_neg (one_add_abs_ne y), one_mul, hr, EReal.coe_inv]

theorem aSel_fin (k : Fin 8) {m0 m1 : EReal} (h0 : IsReal m0) (h1 : IsReal m1) : IsReal (aSel (F := Ideal) (BitVec.ofNat 32 k.val) m0 m1) := by
  have hc : IsReal (c1 (F := Ideal)) := by rw [c1_eq]; exact IsReal.one
  match k with
  | 0 | 1 | 4 | 6 => exact hc
  | 2 => exact hc.add h0
  | 3 => show IsReal (cn (F := Ideal)); rw [cn_eq]; exact ⟨-1, by simp⟩
  | 5 => exact h1
  | 7 =>
    show IsReal (Ideal.div (c1 (F := Ideal)) ((c1 (F := Ideal) : EReal) + max m1 (-m1)))
    rw [c1_eq]; exact h1.inv

theorem bSel_fin (k : Fin 8) {m0 m1 : EReal} (h0 : IsReal m0) (h1 : IsReal m1) : IsReal (bSel (F := Ideal) (BitVec.ofNat 32 k.val) m0 m1) := by
  match k with
  | 0 | 2 | 4 | 6 | 7 => show IsReal (c0 (F := Ideal)); rw [c0_eq]; exact IsReal.zero
  | 1 | 5 => exact h0
  | 3 => exact h1

/-- One affine map after another, with finite coefficients, at any extended real. -/
theorem aff_comp {a b a' b' : EReal} (ha : IsReal a) (hb : IsReal b) (ha' : IsReal a') (hb' : IsReal b') (x : EReal) :
    a' * (a * x + b) + b' = (a' * a) * x + (a' * b + b') := by
  obtain ⟨a, rfl⟩ := ha
  obtain ⟨b, rfl⟩ := hb
  obtain ⟨a', rfl⟩ := ha'
  obtain ⟨b', rfl⟩ := hb'
  have key : ∀ y : EReal, (a' : EReal) * (y + (b : EReal)) = (a' : EReal) * y + (a' : EReal) * b := by
    intro y
    induction y using EReal.rec with
    | coe r => norm_cast; ring
    | bot =>
      rw [EReal.bot_add]
      rcases lt_trichotomy a' 0 with h | h | h
      · rw [EReal.coe_mul_bot_of_neg h, ← EReal.coe_mul, EReal.top_add_coe]
      · subst h; simp
      · rw [EReal.coe_mul_bot_of_pos h, EReal.bot_add]
    | top =>
      rw [EReal.top_add_coe]
      rcases lt_trichotomy a' 0 with h | h | h
      · rw [EReal.coe_mul_top_of_neg h, EReal.bot_add]
      · subst h; simp
      · rw [EReal.coe_mul_top_of_pos h, ← EReal.coe_mul, EReal.top_add_coe]
  rw [key, add_assoc, mul_assoc]

/-- The four affine layers together. -/
theorem aff_all {a b : Fin 4 → EReal} (ha : ∀ j, IsReal (a j)) (hb : ∀ j, IsReal (b j)) (x : EReal) :
    KI.aAll (F := Ideal) a * x + KI.bAll (F := Ideal) a b = a 3 * (a 2 * (a 1 * (a 0 * x + b 0) + b 1) + b 2) + b 3 := by
  show (a 3 * (a 2 * (a 1 * a 0))) * x + (a 3 * (a 2 * (a 1 * b 0 + b 1) + b 2) + b 3) = _
  rw [aff_comp (ha 0) (hb 0) (ha 1) (hb 1), aff_comp ((ha 1).mul (ha 0)) (((ha 1).mul (hb 0)).add (hb 1)) (ha 2) (hb 2),
    aff_comp ((ha 2).mul ((ha 1).mul (ha 0))) (((ha 2).mul (((ha 1).mul (hb 0)).add (hb 1))).add (hb 2)) (ha 3) (hb 3)]

end Cert.Proof

end
-- ==== Proof.Uniform.lean ====
/- The uniform numbers: both programs draw the same ones, from the same key. -/
module

public import proofs.«01_k».proof.Proof.Gen.KernelIdeal.Launch
public import proofs.«01_k».proof.Proof.R.Run

@[expose] public section

noncomputable section

namespace Cert.Proof

open Idealize.ShloMosaic
open Idealize.ShloMosaic.TcCoe
open Idealize.SL.Sem
open Idealize.ShloMosaic.StableHlo (after)

variable {F : FTy → Type} [FloatOps F]

set_option maxHeartbeats 4000000
set_option maxRecDepth 10000

/-- The kernel program's uniform numbers are the reference's: one chain of operations on the key, in both. -/
theorem uniform_eq (V : Valuation Cert.KernelIdeal.τ Cert.KernelIdeal.sig (Elt F)) (V' : Valuation Cert.ReferenceIdeal.τ Cert.ReferenceIdeal.sig (Elt F)) :
    after (Cert.KernelIdeal.Gen.hostOps0_1 (F := F)) (after (Cert.KernelIdeal.Gen.hostOps0 (F := F)) V) Cert.KernelIdeal.main_v10 = R.uOf V' := by
  unfold R.uOf R.uniform R.cut0
  dsimp only
  after_reads_simp
  rfl

end Cert.Proof

end
-- ==== Proof.Value.lean ====
/- The two programs' results are equal: the operations chosen and their magnitudes are the same, and so is every layer. -/
module

public import proofs.«01_k».proof.Proof.Algebra
public import proofs.«01_k».proof.Proof.Uniform

@[expose] public section

noncomputable section

namespace Cert.Proof

open Idealize.ShloMosaic
open Idealize.ShloMosaic.TcCoe
open Idealize.SL.Sem
open Idealize.ShloMosaic.StableHlo (after)
open Cert.KernelIdeal (S_ S4 S4x16 S8x16 S1x1 S128x3x224x224)
open Cert.Proof.KI (word4 word2 aSel bSel aGen bGen cGen dGen isAff)
open scoped BigOperators

/-! ## The operations chosen -/

/-- The two programs choose the same operations: their scores are one sum, the terms in the other order. -/
theorem opers_eq (u l : (⟨S4x16, .f32⟩ : BufTy).Contents (Elt Ideal)) : R.refOpers (F := Ideal) u l = KI.opers (F := Ideal) u l := by
  have h : addf (F := Ideal) (s := S4x16) (φ := .f32) (Host.negf (Host.log (Host.negf (Host.log (F := Ideal) (s := S4x16) (φ := .f32) u)))) l
      = subf l (Host.log (Host.negf (Host.log (F := Ideal) (s := S4x16) (φ := .f32) u))) := by
    funext i
    exact (add_comm _ _).trans (sub_eq_add_neg _ _).symm
  unfold R.refOpers
  rw [h]
  rfl

/-- A choice is one of the sixteen. -/
theorem opers_lt (u l : (⟨S4x16, .f32⟩ : BufTy).Contents (Elt Ideal)) (j : S4.Idx) : ∃ i : Fin 16, KI.opers (F := Ideal) u l j = BitVec.ofNat 32 i.val := by
  unfold KI.opers
  rw [Ideal.argReduce_eq_reduce2]
  unfold Host.reduce2
  generalize List.filter _ _ = L
  suffices h : ∀ (L : List (Fin S4x16.numel)) (r : Ideal .f32 × BitVec 32), (∃ i : Fin 16, r.2 = BitVec.ofNat 32 i.val) →
      ∃ i : Fin 16, (L.foldl (fun r n => KernelIdeal.reducer_argmax_f32_i32 (F := Ideal) r
        (subf l (Host.log (Host.negf (Host.log u))) (S4x16.rowMajor.symm n), iotaInDim S4x16 32 1 (S4x16.rowMajor.symm n))) r).2 = BitVec.ofNat 32 i.val from
    h L _ ⟨0, rfl⟩
  intro L
  induction L with
  | nil => exact fun r h => h
  | cons n L ih =>
    intro r hr
    refine ih _ ?_
    show ∃ i : Fin 16, Scalar.select _ r.2 (iotaInDim S4x16 32 1 (S4x16.rowMajor.symm n)) = _
    unfold Scalar.select
    split
    · exact hr
    · exact ⟨⟨((S4x16.rowMajor.symm n) 1).val, ((S4x16.rowMajor.symm n) 1).isLt⟩, rfl⟩

/-! ## The magnitudes -/

/-- Entry `(j, i)` of the table. -/
def tab (j : Fin 8) (i : Fin 16) : S8x16.Idx := fun a => match a with | ⟨0, _⟩ => j | ⟨1, _⟩ => i
/-- Entry `(j, i)` of a half of the table. -/
def half (j : Fin 4) (i : Fin 16) : S4x16.Idx := fun a => match a with | ⟨0, _⟩ => j | ⟨1, _⟩ => i

theorem magAt_eq (A : (⟨S8x16, .f32⟩ : BufTy).Contents (Elt Ideal)) (j : Fin 8) (i : Fin 16) (k : S_.Idx) : R.magAt (F := Ideal) A j i k = A (tab j i) := by
  unfold R.magAt shapeCast extractStridedSlice
  congr 1
  funext a
  apply Fin.ext
  generalize Shape.reshapeEquiv _ _ = q
  fin_cases a
  · have := (q 0).isLt
    change _ < 1 at this
    show j.val + (q 0).val = j.val
    omega
  · have := (q 1).isLt
    change _ < 1 at this
    show i.val + (q 1).val = i.val
    omega

/-- The sum along a row with every entry but one zeroed is that entry. -/
theorem picked_eq (H : (⟨S4x16, .f32⟩ : BufTy).Contents (Elt Ideal)) (o : (⟨S4, .i32⟩ : BufTy).Contents (Elt Ideal)) (j : Fin 4) (i : Fin 16)
    (h : o (word4 j) = BitVec.ofNat 32 i.val) : KI.picked (F := Ideal) H o (word4 j) = H (half j i) := by
  have hr : S4x16.Reduces [1] S4 := by decide
  unfold KI.picked
  rw [ValueIdx.hostReduceAdd_apply, Ideal.hostReduceAdd_single _ hr]
  have hl : ∀ k : Fin 16, hr.lift (word4 j) k = half j k := fun k => by
    funext a; apply Fin.ext; fin_cases a <;> rfl
  have ho : (broadcastInDim S4x16 ![0, 1] KernelIdeal.Gen.bcast_S4x1_S4x16_0_1 (broadcastInDim KernelIdeal.S4x1 ![0] KernelIdeal.Gen.bcast_S4_S4x1_0 o)) = fun k => o (word4 (k 0)) := by
    funext k
    unfold broadcastInDim
    congr 1
    funext a; apply Fin.ext; fin_cases a; rfl
  have hw : ∀ k : Fin 16, IntOp.cmpi .eq (BitVec.ofNat 32 k.val) (BitVec.ofNat 32 i.val) = if k = i then 1#1 else 0#1 := by
    clear h; revert i; decide
  rw [ho]
  show Ideal.ofBits .f32 0x00000000#32 + ∑ k : Fin 16, (H (hr.lift (word4 j) k) : EReal) * (((IntOp.cmpi .eq (BitVec.ofNat 32 k.val) (o (word4 j))).toNat : ℝ) : EReal) = _
  rw [Ideal.ofBits_zero_f32, zero_add, h, Finset.sum_eq_single i]
  · rw [hw, if_pos rfl, hl]; simp
  · intro k _ hk
    rw [hw, if_neg hk]; simp
  · intro hk; exact absurd (Finset.mem_univ i) hk

theorem half_lo (A : (⟨S8x16, .f32⟩ : BufTy).Contents (Elt Ideal)) (h : S8x16.Slices ![0, 0] S4x16) (j : Fin 4) (i : Fin 16) :
    extractStridedSlice S4x16 ![0, 0] A h (half j i) = A (tab ⟨j.val, by omega⟩ i) := by
  unfold extractStridedSlice
  congr 1
  funext a; apply Fin.ext
  fin_cases a
  · exact Nat.zero_add _
  · exact Nat.zero_add _

theorem half_hi (A : (⟨S8x16, .f32⟩ : BufTy).Contents (Elt Ideal)) (h : S8x16.Slices ![4, 0] S4x16) (j : Fin 4) (i : Fin 16) :
    extractStridedSlice S4x16 ![4, 0] A h (half j i) = A (tab ⟨j.val + 4, by omega⟩ i) := by
  unfold extractStridedSlice
  congr 1
  funext a; apply Fin.ext
  fin_cases a
  · exact Nat.add_comm _ _
  · exact Nat.zero_add _

/-! ## The words -/

theorem residue_eq (i : Fin 16) : KI.residue (BitVec.ofNat 32 i.val) = BitVec.ofNat 32 (i.val % 8) := by
  revert i; decide

theorem clamp_word (i : Fin 16) : HostLoop.branch (IntOp.minsi (IntOp.maxsi (BitVec.ofNat 32 i.val) 0#32) 15#32) 15 = i := by
  revert i; decide

theorem opAt_eq (o : (⟨S4, .i32⟩ : BufTy).Contents (Elt Ideal)) (j : Fin 4) (i : Fin 16) (h : o (word4 j) = BitVec.ofNat 32 i.val) :
    R.opAt (F := Ideal) o j = i := by
  have e : ∀ hs, shapeCast S_ (extractStridedSlice KernelIdeal.S1 ![j.val] o hs) KernelIdeal.Gen.shapeCasts_S1_S_ HostLoop.idx0 = BitVec.ofNat 32 i.val := by
    intro hs
    refine Eq.trans ?_ h
    unfold shapeCast extractStridedSlice
    congr 1
    funext a
    apply Fin.ext
    fin_cases a
    simp only [word4]
    generalize Shape.reshapeEquiv _ _ = q
    have := (q 0).isLt
    change _ < 1 at this
    show j.val + (q 0).val = j.val
    omega
  refine Eq.trans ?_ (clamp_word i)
  rw [← e (by clear e h; revert j; decide)]
  rfl

/-! ## The layers -/

/-- One entry of the reference's operation. -/
theorem refOp_pt (i : Fin 16) (x : (⟨S128x3x224x224, .f32⟩ : BufTy).Contents (Elt Ideal)) (m0 m1 : (⟨S_, .f32⟩ : BufTy).Contents (Elt Ideal)) (p : S128x3x224x224.Idx) :
    R.refOp (F := Ideal) i x m0 m1 p = refPt (i.val % 8) (x p) (m0 HostLoop.idx0) (m1 HostLoop.idx0) := by
  have hs : ∀ s : (⟨S_, .f32⟩ : BufTy).Contents (Elt Ideal), R.spread (F := Ideal) s p = s HostLoop.idx0 := fun s =>
    congrArg s (funext fun a => a.elim0)
  have h1 : (R.one (F := Ideal) HostLoop.idx0 : EReal) = 1 := Ideal.ofBits_one_f32
  unfold R.refOp
  generalize i.val % 8 = k
  match k with
  | 0 => rfl
  | 1 => exact congrArg (fun t : EReal => (x p : EReal) + t) (hs m0)
  | 2 => exact congrArg (fun t : EReal => (x p : EReal) * t) ((hs _).trans (congrArg (fun t : EReal => t + (m0 HostLoop.idx0 : EReal)) h1))
  | 3 => exact congrArg (fun t : EReal => t - (x p : EReal)) (hs m1)
  | 4 => exact congrArg (fun t : EReal => (x p : EReal) + t * Ideal.sin (x p)) (hs m0)
  | 5 => exact congrArg₂ (fun s t : EReal => (x p : EReal) * s + t) (hs m1) (hs m0)
  | 6 => exact congrArg (fun t : EReal => Ideal.tanh (x p) * t) ((hs _).trans (congrArg (fun t : EReal => t + (m1 HostLoop.idx0 : EReal)) h1))
  | _ + 7 =>
    exact congrArg (fun t : EReal => Ideal.div (x p) t) ((hs _).trans (congrArg (fun t : EReal => t + max (m1 HostLoop.idx0 : EReal) (-(m1 HostLoop.idx0 : EReal))) h1))

end Cert.Proof

end
-- ==== Proof.Result.lean ====
/- The kernel's result is the reference's, entry by entry, where the magnitudes are finite. -/
module

public import proofs.«01_k».proof.Defs
public import proofs.«01_k».proof.Proof.R.Run
public import proofs.«01_k».proof.Proof.Value

@[expose] public section

noncomputable section

namespace Cert.Proof.KI

open Cert.KernelIdeal Cert.KernelIdeal.Gen

open Idealize.ShloMosaic
open Idealize.ShloMosaic.TcCoe
open Idealize.SL.Sem
open Idealize.ShloMosaic.StableHlo (after)

variable {F : FTy → Type} [FloatOps F]

set_option maxHeartbeats 4000000
set_option maxRecDepth 10000

/-! ## What the branch leaves -/

section Branch
variable (V : Dev nD → Valuation τ sig (Elt F)) (c : Dev nD)

theorem read_kept (b : Ref sig .tc) (h : ([rdOp (F := F)].all fun op => decide (Proc.devRef .tc b ∉ op.writes)) = true) : V1 V c b = V c b := kept b h _

/-- The first arm leaves the one affine map of the image. -/
theorem Ve_aff : Ve V 0 c main_v108 = affArr (V c main_v104) (V c main_arg0) := by
  rw [← read_kept V c main_v104 (by rfl), ← read_kept V c main_arg0 (by rfl)]
  unfold Ve Vr0
  dsimp only
  after_reads_simp
  rfl

/-- The second arm leaves the four layers of the image. -/
theorem Ve_gen : Ve V 1 c main_v108 = layersVec (V c main_v65) (V c main_v66) (V c main_v67) (V c main_v70) (V c main_arg0) := by
  rw [← read_kept V c main_v65 (by rfl), ← read_kept V c main_v66 (by rfl), ← read_kept V c main_v67 (by rfl), ← read_kept V c main_v70 (by rfl),
    ← read_kept V c main_arg0 (by rfl)]
  unfold Ve Vr1
  dsimp only
  after_reads_simp
  rfl

/-- The word that the branch reads. -/
theorem word_flag : word V c = (V c main_v106 HostLoop.idx0).setWidth 32 := by
  unfold word V1 rdOp
  after_reads_simp
  rfl
end Branch

/-- The flags' disjunction, flag by flag. -/
theorem any_four (x : (⟨S4, .i1⟩ : BufTy).Contents (Elt F)) :
    Host.reduce IntOp.ori x (constantI S_ 1 0#1) reducesTo_S4_S_d0 h_S_ HostLoop.idx0
      = (((0#1 ||| x (word4 0)) ||| x (word4 1)) ||| x (word4 2)) ||| x (word4 3) := by
  have hl : (List.finRange S4.numel).filter (fun n => reducesTo_S4_S_d0.drop (S4.rowMajor.symm n) = HostLoop.idx0) = List.finRange S4.numel :=
    List.filter_eq_self.mpr fun n _ => decide_eq_true (funext fun a => a.elim0)
  unfold Host.reduce
  rw [hl]
  have hi : ∀ (k : Fin 4) (h : k.val < S4.numel), S4.rowMajor.symm ⟨k.val, h⟩ = word4 k := fun k h =>
    (Equiv.symm_apply_eq _).mpr (Fin.ext (by revert h; revert k; decide))
  have h4 : List.finRange S4.numel = [⟨(0 : Fin 4).val, by decide⟩, ⟨(1 : Fin 4).val, by decide⟩, ⟨(2 : Fin 4).val, by decide⟩, ⟨(3 : Fin 4).val, by decide⟩] := by rfl
  rw [h4]
  simp only [List.foldl, hi]
  rfl

end Cert.Proof.KI

end

noncomputable section

namespace Cert.Proof

open Idealize.ShloMosaic
open Idealize.ShloMosaic.TcCoe
open Idealize.SL.Sem
open Idealize.ShloMosaic.StableHlo (after)
open Cert.KernelIdeal (S_ S4 S4x16 S8x16 S128x3x224x224)
open Cert.Proof.KI (word4 word2 aSel bSel aGen bGen cGen dGen isAff)

/-- Layer `j` on one entry, its operation `i`. -/
def stepPt (A : (⟨S8x16, .f32⟩ : BufTy).Contents (Elt Ideal)) (i : Fin 4 → Fin 16) (j : Fin 4) (y : EReal) : EReal :=
  refPt ((i j).val % 8) y (A (tab ⟨j.val, by omega⟩ (i j))) (A (tab ⟨j.val + 4, by omega⟩ (i j)))

/-- One entry of a layer of the reference. -/
theorem refLayer_pt (o : (⟨S4, .i32⟩ : BufTy).Contents (Elt Ideal)) (A : (⟨S8x16, .f32⟩ : BufTy).Contents (Elt Ideal)) (i : Fin 4 → Fin 16)
    (h : ∀ j, o (word4 j) = BitVec.ofNat 32 (i j).val) (j : Fin 4) (x : (⟨S128x3x224x224, .f32⟩ : BufTy).Contents (Elt Ideal)) (p : S128x3x224x224.Idx) :
    R.refLayer (F := Ideal) o A j x p = stepPt A i j (x p) := by
  unfold R.refLayer
  rw [opAt_eq o j (i j) (h j), refOp_pt, magAt_eq, magAt_eq]
  rfl

/-- An entry of the general region's layer. -/
theorem layerVec_pt (a b c d : Elt Ideal .f32) (x : (⟨S128x3x224x224, .f32⟩ : BufTy).Contents (Elt Ideal)) (p : S128x3x224x224.Idx) :
    KI.layerVec (F := Ideal) a b c d x p = genPt a b c d (x p) := rfl

/-- An entry of the affine region. -/
theorem affArr_pt (s : (⟨KernelIdeal.S2, .f32⟩ : BufTy).Contents (Elt Ideal)) (x : (⟨S128x3x224x224, .f32⟩ : BufTy).Contents (Elt Ideal)) (p : S128x3x224x224.Idx) :
    KI.affArr (F := Ideal) s x p = (s (word2 0) : EReal) * x p + s (word2 1) := rfl

theorem residue_lt (i : Fin 16) : KI.residue (BitVec.ofNat 32 i.val) = BitVec.ofNat 32 (⟨i.val % 8, Nat.mod_lt _ (by decide)⟩ : Fin 8).val := residue_eq i

/-- No flag set: every layer is affine. -/
theorem flags_zero (x : Fin 4 → BitVec 1) (h : (((0#1 ||| ~~~ x 0) ||| ~~~ x 1) ||| ~~~ x 2) ||| ~~~ x 3 = 0#1) : ∀ j, x j = 1#1 := by
  have key : ∀ a b c d : BitVec 1, (((0#1 ||| ~~~ a) ||| ~~~ b) ||| ~~~ c) ||| ~~~ d = 0#1 → (a = 1#1 ∧ b = 1#1) ∧ c = 1#1 ∧ d = 1#1 := by decide
  obtain ⟨⟨h0, h1⟩, h2, h3⟩ := key _ _ _ _ h
  intro j
  fin_cases j
  exacts [h0, h1, h2, h3]

/-- The word's two values. -/
theorem bit_cases (b : BitVec 1) : b = 0#1 ∨ b = 1#1 := by revert b; decide

open Cert.KernelIdeal in
/-- The kernel's result is the four layers of the image, where every magnitude is finite. -/
theorem kernel_result (m : (ℓ : Loc nD τ sig) → Buf (Elt Ideal) ℓ) (c : Dev nD)
    (hfin : ∀ a : S8x16.Idx, IsReal (m ((c : Thread nD τ).loc main_arg2) a))
    (V' : Valuation Cert.ReferenceIdeal.τ Cert.ReferenceIdeal.sig (Elt Ideal)) :
    KI.Vf m c main_v108 = R.refOut (F := Ideal) (R.uOf V') (m ((c : Thread nD τ).loc main_arg0)) (m ((c : Thread nD τ).loc main_arg1))
      (m ((c : Thread nD τ).loc main_arg2)) := by
  -- the operations chosen
  have hu := uniform_eq (F := Ideal) (KI.V₀ m c) V'
  have ho : KI.afterO (KI.afterU (KI.V₀ m c)) main_v15 = R.refOpers (F := Ideal) (R.uOf V') (R.logits (m ((c : Thread nD τ).loc main_arg1))) := by
    rw [KI.opers_read, KI.logits_read, opers_eq]
    refine congrArg₂ KI.opers hu ?_
    rfl
  have hA : KI.afterO (KI.afterU (KI.V₀ m c)) main_arg2 = m ((c : Thread nD τ).loc main_arg2) := by
    rw [KI.mag_O, KI.mag_U]
  have hx : KI.Vb m c main_arg0 = m ((c : Thread nD τ).loc main_arg0) := StableHlo.after_of_forall_not_mem KI.hostAll (KI.V₀ m c) (KI.hostAll_args main_arg0 (.inl rfl))
  have hb : KI.Vb m c = KI.afterD (KI.afterC (KI.afterM (KI.afterO (KI.afterU (KI.V₀ m c))))) := KI.after_hostAll _
  unfold R.refOut
  dsimp only
  generalize m ((c : Thread nD τ).loc main_arg2) = A at *
  generalize m ((c : Thread nD τ).loc main_arg0) = x at *
  have hlt : ∀ j, ∃ i : Fin 16, R.refOpers (F := Ideal) (R.uOf V') (R.logits (m ((c : Thread nD τ).loc main_arg1))) (word4 j) = BitVec.ofNat 32 i.val := fun j => by
    rw [opers_eq]; exact opers_lt _ _ _
  generalize R.refOpers (F := Ideal) (R.uOf V') (R.logits (m ((c : Thread nD τ).loc main_arg1))) = o at *
  choose i hi using hlt
  generalize KI.afterO (KI.afterU (KI.V₀ m c)) = W at *
  -- each layer's coefficients
  have hm0 : ∀ j, KI.afterM W main_v25 (word4 j) = A (tab ⟨j.val, by omega⟩ (i j)) := fun j => by
    rw [KI.m0_read, ho, hA, picked_eq _ _ j (i j) (hi j), half_lo]
  have hm1 : ∀ j, KI.afterM W main_v28 (word4 j) = A (tab ⟨j.val + 4, by omega⟩ (i j)) := fun j => by
    rw [KI.m1_read, ho, hA, picked_eq _ _ j (i j) (hi j), half_hi]
  have hk : ∀ j, KI.afterM W main_v29 (word4 j) = BitVec.ofNat 32 (⟨(i j).val % 8, Nat.mod_lt _ (by decide)⟩ : Fin 8).val := fun j => by
    rw [KI.k_read, ho, hi, residue_lt]
  generalize KI.afterM W = M at *
  funext p
  rw [refLayer_pt o A i hi, refLayer_pt o A i hi, refLayer_pt o A i hi, refLayer_pt o A i hi]
  show KI.Ve (KI.Vb m) (HostLoop.branch (KI.word (KI.Vb m) c) 1) c main_v108 p = _
  have hw := KI.word_flag (KI.Vb m) c
  have hflag : KI.Vb m c main_v106 HostLoop.idx0 = (((0#1 ||| ~~~ isAff (M main_v29 (word4 0))) ||| ~~~ isAff (M main_v29 (word4 1)))
      ||| ~~~ isAff (M main_v29 (word4 2))) ||| ~~~ isAff (M main_v29 (word4 3)) := by
    rw [hb, KI.v106_read, KI.any_four (F := Ideal), ← KI.v35_read M, ← KI.v35_read M, ← KI.v35_read M, ← KI.v35_read M]
    rfl
  rcases bit_cases (KI.Vb m c main_v106 HostLoop.idx0) with h | h
  · -- every layer affine
    rw [h] at hw
    rw [hw, show HostLoop.branch (BitVec.setWidth 32 0#1) 1 = 0 from by decide, KI.Ve_aff, affArr_pt, hx, hb, KI.v104_read0, KI.v104_read1]
    have hall := flags_zero (fun j => isAff (M main_v29 (word4 j))) (hflag.symm.trans h)
    have ea : (fun j => KI.afterC M main_v54 (word4 j)) = fun j => aSel (F := Ideal) (M main_v29 (word4 j)) (M main_v25 (word4 j)) (M main_v28 (word4 j)) :=
      funext fun j => KI.v54_read M (word4 j)
    have eb : (fun j => KI.afterC M main_v63 (word4 j)) = fun j => bSel (F := Ideal) (M main_v29 (word4 j)) (M main_v25 (word4 j)) (M main_v28 (word4 j)) :=
      funext fun j => KI.v63_read M (word4 j)
    rw [ea, eb, aff_all]
    · have step : ∀ (j : Fin 4) (y : EReal), aSel (F := Ideal) (M main_v29 (word4 j)) (M main_v25 (word4 j)) (M main_v28 (word4 j)) * y
          + bSel (F := Ideal) (M main_v29 (word4 j)) (M main_v25 (word4 j)) (M main_v28 (word4 j)) = stepPt A i j y := fun j y => by
        have hj := hall j
        rw [hk] at hj
        rw [hk, hm0, hm1]
        exact aff_eq _ hj y _ _
      rw [step, step, step, step]
    · intro j
      rw [hk, hm0, hm1]
      exact aSel_fin _ (hfin _) (hfin _)
    · intro j
      rw [hk, hm0, hm1]
      exact bSel_fin _ (hfin _) (hfin _)
  · -- some layer not affine
    rw [h] at hw
    rw [hw, show HostLoop.branch (BitVec.setWidth 32 1#1) 1 = 1 from by decide, KI.Ve_gen, hx, hb, KI.v65_D, KI.v66_D, KI.v67_D, KI.v70_D]
    have step : ∀ (j : Fin 4) (y : EReal), genPt (KI.afterC M main_v65 (word4 j)) (KI.afterC M main_v66 (word4 j)) (KI.afterC M main_v67 (word4 j))
        (KI.afterC M main_v70 (word4 j)) y = stepPt A i j y := fun j y => by
      rw [KI.v65_read, KI.v66_read, KI.v67_read, KI.v70_read, hk, hm0, hm1]
      exact gen_eq _ y _ _
    unfold KI.layersVec
    rw [layerVec_pt, layerVec_pt, layerVec_pt, layerVec_pt, step, step, step, step]

/-- The predicate's shape facts. -/
theorem preFacts : Cert.Pre_finite_magnitudes.Facts := ⟨by decide⟩

/-- An extended real whose absolute value is below infinity is a real number. -/
theorem isReal_of_abs_lt (x : EReal) (h : max x (-x) < ⊤) : IsReal x := by
  have h1 : x ≠ ⊤ := fun e => by rw [e] at h; exact absurd h (by simp)
  have h2 : x ≠ ⊥ := fun e => by rw [e] at h; exact absurd h (by simp)
  exact ⟨x.toReal, (EReal.coe_toReal h1 h2).symm⟩

/-- The pattern the predicate compares with is infinity. -/
theorem inf_bits : Ideal.ofBits .f32 0x7F800000#32 = ⊤ := by simp [Ideal.ofBits, Ideal.ieee]

/-- The predicate's bit, set, says the entry is a real number. -/
theorem isReal_of_bit (x : EReal) (e : BitVec.ofBool (decide (max x (-x) < Ideal.ofBits .f32 0x7F800000#32)) = 1#1) : IsReal x := by
  rw [inf_bits] at e
  refine isReal_of_abs_lt _ ?_
  by_contra hn
  rw [decide_eq_false hn] at e
  exact absurd e (by decide)

open Cert.KernelIdeal in
/-- Where the predicate holds, every magnitude is a real number. -/
theorem finite_of_pre (m : (ℓ : Loc nD τ sig) → Buf (Elt Ideal) ℓ) (h : Cert.Pre_KernelIdeal_finite_magnitudes (hPre_finite_magnitudes := preFacts) m)
    (c : Dev nD) (a : S8x16.Idx) : IsReal (m ((c : Thread nD τ).loc main_arg2) a) := by
  exact isReal_of_bit _ (congrFun (h c) a)

/-- The two programs end with equal results, from memories that agree on the arguments and hold finite magnitudes. -/
theorem algebraic : Cert.algebraic_KernelIdeal_ReferenceIdeal_pre_finite_magnitudes (hKernelIdeal := KernelIdeal.Gen.facts)
    (hReferenceIdeal := ReferenceIdeal.Gen.facts) (hPre_finite_magnitudes := preFacts) := by
  intro m g m' g' hpre hargs
  refine ⟨fun c => KI.Vf m c KernelIdeal.main_v108, ?_, ?_⟩
  · exact (θ_run KernelIdeal.defs _ _).mono (fun r h c => ⟨h.1 c KernelIdeal.main_v108 rfl,
      (h.1 c KernelIdeal.main_arg0 rfl).trans (KI.Vf_arg m c _ (.inl rfl)), (h.1 c KernelIdeal.main_arg1 rfl).trans (KI.Vf_arg m c _ (.inr (.inl rfl))),
      (h.1 c KernelIdeal.main_arg2 rfl).trans (KI.Vf_arg m c _ (.inr (.inr rfl)))⟩) (KI.run_main m g)
  · refine (θ_run ReferenceIdeal.defs _ _).mono (fun r h c => ⟨(h.1 c).1.trans ?_, (h.1 c).2⟩) (R.run_main m' g')
    rw [(hargs c).1, (hargs c).2.1, (hargs c).2.2]
    exact (kernel_result m c (finite_of_pre m hpre c) (StableHlo.launchContents m' c)).symm

end Cert.Proof

end
-- ==== Proof.lean ====
/- The certificate: the frames of the kernel, of the idealized kernel and of the idealized reference, the idealization's
   preservation, and the equality of the two results over the extended reals where the magnitudes are finite. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.K.Launch
public import proofs.«01_k».proof.Proof.Launch
public import proofs.«01_k».proof.Proof.R.Run
public import proofs.«01_k».proof.Proof.Result
public import Idealize.ShloMosaic.Adequacy
public import Idealize.ShloMosaic.Init

@[expose] public section

noncomputable section

namespace Cert.Proof

open Idealize.ShloMosaic Idealize.SL.Sem Cert.Kernel

/-- The kernel's frame, the frames of the two idealized programs with and without the precondition, the
idealization's preservation, and the equality of the results. -/
theorem claim : Cert.Claim := ⟨Cert.Kernel.Gen.facts, Cert.KernelIdeal.Gen.facts, Cert.ReferenceIdeal.Gen.facts, preFacts,
  fun m g _ => K.run_frame m g, fun m g _ => KI.run_frame m g, fun m g _ => KI.run_frame m g, fun m g _ => R.run_frame m g,
  fun m g _ => R.run_frame m g, trivial, algebraic⟩

end Cert.Proof

end
